-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4096x64 : Shape := ⟨2, ![4096, 64]⟩
abbrev S4096 : Shape := ⟨1, ![4096]⟩
abbrev S_ : Shape := ⟨0, ![]⟩

class Facts : Prop where
  bcast_S_S4096x64 : S_.BroadcastsInDim S4096x64 (![] : Fin 0 → Fin S4096x64.rank)
  bcast_S_S4096 : S_.BroadcastsInDim S4096 (![] : Fin 0 → Fin S4096.rank)

variable [Facts]

def fn {F : FTy → Type} [FloatOps F] (main_arg0 : FVec F S4096x64 .f32) (main_arg1 : IVec S4096 32) : IVec S4096x64 1 × IVec S4096 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 32 := constantI S_ 32 0#32
  let main_v3 : IVec S4096 32 := broadcastInDim S4096 ![] bcast_S_S4096 main_c
  let main_v4 : IVec S4096 1 := cmpi .sge main_arg1 main_v3
  let main_c_0 : IVec S_ 32 := constantI S_ 32 128#32
  let main_v5 : IVec S4096 32 := broadcastInDim S4096 ![] bcast_S_S4096 main_c_0
  let main_v6 : IVec S4096 1 := cmpi .slt main_arg1 main_v5
  let main_v7 : IVec S4096 1 := andi main_v4 main_v6
  (main_v2, main_v7)
-- ==== Kernel.lean ====
abbrev S4096x64 : Shape := ⟨2, ![4096, 64]⟩
abbrev S4096 : Shape := ⟨1, ![4096]⟩
abbrev S4096x1 : Shape := ⟨2, ![4096, 1]⟩
abbrev S1x4096 : Shape := ⟨2, ![1, 4096]⟩
abbrev S1x1 : Shape := ⟨2, ![1, 1]⟩
abbrev S2048x64 : Shape := ⟨2, ![2048, 64]⟩
abbrev S2048x1 : Shape := ⟨2, ![2048, 1]⟩
abbrev S1 : Shape := ⟨1, ![1]⟩
abbrev S128x1 : Shape := ⟨2, ![128, 1]⟩
abbrev S128x4096 : Shape := ⟨2, ![128, 4096]⟩
abbrev S128 : Shape := ⟨1, ![128]⟩
abbrev S2048 : Shape := ⟨1, ![2048]⟩
abbrev S256x64 : Shape := ⟨2, ![256, 64]⟩
abbrev S2048x256 : Shape := ⟨2, ![2048, 256]⟩
abbrev S1x64 : Shape := ⟨2, ![1, 64]⟩
abbrev S1x256 : Shape := ⟨2, ![1, 256]⟩
abbrev S2048x128 : Shape := ⟨2, ![2048, 128]⟩
abbrev S1x2048x1 : Shape := ⟨3, ![1, 2048, 1]⟩
abbrev S1x1x1 : Shape := ⟨3, ![1, 1, 1]⟩
abbrev S_ : Shape := ⟨0, ![]⟩

abbrev nBuf : Space → Nat
  | .hbm => 8
  | .vmem => 7
  | .smem => 4
  | _ => 0

abbrev bufTy : (tb : Table) → Fin (tcTables nBuf tb) → BufTy
  | .hbm, ⟨0, _⟩ => ⟨S4096x64, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S1x1, .f32⟩
  | .hbm, ⟨5, _⟩ => ⟨S1x1, .i32⟩
  | .hbm, ⟨6, _⟩ => ⟨S_, .f32⟩
  | .hbm, ⟨7, _⟩ => ⟨S_, .i32⟩
  | .local _ .vmem, ⟨0, _⟩ => ⟨S2048x64, .f32⟩
  | .local _ .vmem, ⟨1, _⟩ => ⟨S2048x64, .f32⟩
  | .local _ .vmem, ⟨2, _⟩ => ⟨S4096x64, .f32⟩
  | .local _ .vmem, ⟨3, _⟩ => ⟨S2048x1, .i32⟩
  | .local _ .vmem, ⟨4, _⟩ => ⟨S2048x1, .i32⟩
  | .local _ .vmem, ⟨5, _⟩ => ⟨S1x4096, .i32⟩
  | .local _ .vmem, ⟨6, _⟩ => ⟨S128x1, .f32⟩
  | .local _ .smem, ⟨0, _⟩ => ⟨S1x1, .f32⟩
  | .local _ .smem, ⟨1, _⟩ => ⟨S1x1, .i32⟩
  | .local _ .smem, ⟨2, _⟩ => ⟨S1, .f32⟩
  | .local _ .smem, ⟨3, _⟩ => ⟨S1, .i32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch2 : Ref sig .tc := ⟨.vmem, 6, rfl⟩
abbrev cc0_stg4_0 : Ref sig .tc := ⟨.smem, 0, rfl⟩
abbrev cc0_stg5_0 : Ref sig .tc := ⟨.smem, 1, rfl⟩
abbrev cc0_scratch0 : Ref sig .tc := ⟨.smem, 2, rfl⟩
abbrev cc0_scratch1 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![2], ![false]⟩

def k0_cond4 (i : grid0.Coords) : BitVec 1 :=
  let arg0 : BitVec 32 := BitVec.ofNat 32 (i 0).val
  let c1_i32 : BitVec 32 := 1#32
  let v432 : BitVec 1 := Scalar.cmpi .eq arg0 c1_i32
  let v433 : BitVec 32 := Scalar.extui v432
  let c0_i32_199 : BitVec 32 := 0#32
  let v434 : BitVec 1 := Scalar.cmpi .ne v433 c0_i32_199
  v434

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4096x64 : Shape := ⟨2, ![4096, 64]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S64x4096 : Shape := ⟨2, ![64, 4096]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 122
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096, .i32⟩
  | .hbm, ⟨2, _⟩ => ⟨S4096x64, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S64x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x1, .i32⟩
  | .hbm, ⟨20, _⟩ => ⟨S1x4096, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S4096x4096, .i32⟩
  | .hbm, ⟨25, _⟩ => ⟨S4096x4096, .i32⟩
  | .hbm, ⟨26, _⟩ => ⟨S_, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S4096x4096, .i1⟩
  | .hbm, ⟨31, _⟩ => ⟨S4096x4096, .i1⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .i32⟩
  | .hbm, ⟨38, _⟩ => ⟨S_, .f32⟩
  | .hbm, ⟨39, _⟩ => ⟨S_, .i32⟩
  | .hbm, ⟨40, _⟩ => ⟨S4096, .f32⟩
  | .hbm, ⟨41, _⟩ => ⟨S4096, .i32⟩
  | .hbm, ⟨42, _⟩ => ⟨S_, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .i32⟩
  | .hbm, ⟨47, _⟩ => ⟨S_, .f32⟩
  | .hbm, ⟨48, _⟩ => ⟨S_, .i32⟩
  | .hbm, ⟨49, _⟩ => ⟨S4096, .f32⟩
  | .hbm, ⟨50, _⟩ => ⟨S4096, .i32⟩
  | .hbm, ⟨51, _⟩ => ⟨S4096x1, .i32⟩
  | .hbm, ⟨52, _⟩ => ⟨S_, .i32⟩
  | .hbm, ⟨53, _⟩ => ⟨S4096x1, .i32⟩
  | .hbm, ⟨54, _⟩ => ⟨S4096x1, .i1⟩
  | .hbm, ⟨55, _⟩ => ⟨S_, .i32⟩
  | .hbm, ⟨56, _⟩ => ⟨S4096x1, .i32⟩
  | .hbm, ⟨57, _⟩ => ⟨S4096x1, .i32⟩
  | .hbm, ⟨58, _⟩ => ⟨S4096x1, .i32⟩
  | .hbm, ⟨59, _⟩ => ⟨S4096x1x1, .i32⟩
  | .hbm, ⟨60, _⟩ => ⟨S1, .i32⟩
  | .hbm, ⟨61, _⟩ => ⟨S_, .i32⟩
  | .hbm, ⟨62, _⟩ => ⟨S4096x1x1, .i32⟩
  | .hbm, ⟨63, _⟩ => ⟨S4096x1x1, .i1⟩
  | .hbm, ⟨64, _⟩ => ⟨S1x1x1, .i32⟩
  | .hbm, ⟨65, _⟩ => ⟨S4096x1x1, .i32⟩
  | .hbm, ⟨66, _⟩ => ⟨S4096x1x1, .i1⟩
  | .hbm, ⟨67, _⟩ => ⟨S4096x1x1, .i1⟩
  | .hbm, ⟨68, _⟩ => ⟨S_, .i1⟩
  | .hbm, ⟨69, _⟩ => ⟨S4096x1, .i1⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S4096, .f32⟩
  | .hbm, ⟨75, _⟩ => ⟨S4096x1, .i32⟩
  | .hbm, ⟨76, _⟩ => ⟨S_, .i32⟩
  | .hbm, ⟨77, _⟩ => ⟨S4096x1, .i32⟩
  | .hbm, ⟨78, _⟩ => ⟨S4096x1, .i1⟩
  | .hbm, ⟨79, _⟩ => ⟨S_, .i32⟩
  | .hbm, ⟨80, _⟩ => ⟨S4096x1, .i32⟩
  | .hbm, ⟨81, _⟩ => ⟨S4096x1, .i32⟩
  | .hbm, ⟨82, _⟩ => ⟨S4096x1, .i32⟩
  | .hbm, ⟨83, _⟩ => ⟨S4096x1x1, .i32⟩
  | .hbm, ⟨84, _⟩ => ⟨S1, .i32⟩
  | .hbm, ⟨85, _⟩ => ⟨S_, .i32⟩
  | .hbm, ⟨86, _⟩ => ⟨S4096x1x1, .i32⟩
  | .hbm, ⟨87, _⟩ => ⟨S4096x1x1, .i1⟩
  | .hbm, ⟨88, _⟩ => ⟨S1x1x1, .i32⟩
  | .hbm, ⟨89, _⟩ => ⟨S4096x1x1, .i32⟩
  | .hbm, ⟨90, _⟩ => ⟨S4096x1x1, .i1⟩
  | .hbm, ⟨91, _⟩ => ⟨S4096x1x1, .i1⟩
  | .hbm, ⟨92, _⟩ => ⟨S_, .i1⟩
  | .hbm, ⟨93, _⟩ => ⟨S4096x1, .i1⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S4096, .f32⟩
  | .hbm, ⟨99, _⟩ => ⟨S4096, .f32⟩
  | .hbm, ⟨100, _⟩ => ⟨S_, .f32⟩
  | .hbm, ⟨101, _⟩ => ⟨S4096, .f32⟩
  | .hbm, ⟨102, _⟩ => ⟨S4096, .f32⟩
  | .hbm, ⟨103, _⟩ => ⟨S_, .f32⟩
  | .hbm, ⟨104, _⟩ => ⟨S4096, .f32⟩
  | .hbm, ⟨105, _⟩ => ⟨S4096, .f32⟩
  | .hbm, ⟨106, _⟩ => ⟨S_, .i1⟩
  | .hbm, ⟨107, _⟩ => ⟨S4096, .i1⟩
  | .hbm, ⟨108, _⟩ => ⟨S_, .i1⟩
  | .hbm, ⟨109, _⟩ => ⟨S4096, .i1⟩
  | .hbm, ⟨110, _⟩ => ⟨S4096, .i1⟩
  | .hbm, ⟨111, _⟩ => ⟨S4096, .i32⟩
  | .hbm, ⟨112, _⟩ => ⟨S_, .i32⟩
  | .hbm, ⟨113, _⟩ => ⟨S_, .i32⟩
  | .hbm, ⟨114, _⟩ => ⟨S4096, .f32⟩
  | .hbm, ⟨115, _⟩ => ⟨S4096, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v27 : Ref sig .tc := ⟨.hbm, 36, rfl⟩
abbrev main_call1_v0 : Ref sig .tc := ⟨.hbm, 37, rfl⟩
abbrev main_call1_cst : Ref sig .tc := ⟨.hbm, 38, rfl⟩
abbrev main_call1_c : Ref sig .tc := ⟨.hbm, 39, rfl⟩
abbrev main_call1_v1_0 : Ref sig .tc := ⟨.hbm, 40, rfl⟩
abbrev main_v28 : Ref sig .tc := ⟨.hbm, 41, rfl⟩
abbrev main_cst_3 : Ref sig .tc := ⟨.hbm, 42, rfl⟩
abbrev main_call2_v0 : Ref sig .tc := ⟨.hbm, 43, rfl⟩
abbrev main_call2_v1 : Ref sig .tc := ⟨.hbm, 44, rfl⟩
abbrev main_v29 : Ref sig .tc := ⟨.hbm, 45, rfl⟩
abbrev main_call3_v0 : Ref sig .tc := ⟨.hbm, 46, rfl⟩
abbrev main_call3_cst : Ref sig .tc := ⟨.hbm, 47, rfl⟩
abbrev main_call3_c : Ref sig .tc := ⟨.hbm, 48, rfl⟩
abbrev main_call3_v1_0 : Ref sig .tc := ⟨.hbm, 49, rfl⟩
abbrev main_v30 : Ref sig .tc := ⟨.hbm, 50, rfl⟩
abbrev main_v31 : Ref sig .tc := ⟨.hbm, 51, rfl⟩
abbrev main_call4_c : Ref sig .tc := ⟨.hbm, 52, rfl⟩
abbrev main_call4_v0 : Ref sig .tc := ⟨.hbm, 53, rfl⟩
abbrev main_call4_v1 : Ref sig .tc := ⟨.hbm, 54, rfl⟩
abbrev main_call4_c_0 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_call4_v5 : Ref sig .tc := ⟨.hbm, 59, rfl⟩
abbrev main_call4_c_1 : Ref sig .tc := ⟨.hbm, 60, rfl⟩
abbrev main_call4_c_2 : Ref sig .tc := ⟨.hbm, 61, rfl⟩
abbrev main_call4_v6 : Ref sig .tc := ⟨.hbm, 62, rfl⟩
abbrev main_call4_v7 : Ref sig .tc := ⟨.hbm, 63, rfl⟩
abbrev main_call4_v8 : Ref sig .tc := ⟨.hbm, 64, rfl⟩
abbrev main_call4_v9 : Ref sig .tc := ⟨.hbm, 65, rfl⟩
abbrev main_call4_v10 : Ref sig .tc := ⟨.hbm, 66, rfl⟩
abbrev main_call4_v11 : Ref sig .tc := ⟨.hbm, 67, rfl⟩
abbrev main_call4_c_3 : Ref sig .tc := ⟨.hbm, 68, rfl⟩
abbrev main_call4_v12 : Ref sig .tc := ⟨.hbm, 69, rfl⟩
abbrev main_call4_v13 : Ref sig .tc := ⟨.hbm, 70, rfl⟩
abbrev main_call4_cst : Ref sig .tc := ⟨.hbm, 71, rfl⟩
abbrev main_call4_v14 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_call5_c : Ref sig .tc := ⟨.hbm, 76, rfl⟩
abbrev main_call5_v0 : Ref sig .tc := ⟨.hbm, 77, rfl⟩
abbrev main_call5_v1 : Ref sig .tc := ⟨.hbm, 78, rfl⟩
abbrev main_call5_c_0 : Ref sig .tc := ⟨.hbm, 79, rfl⟩
abbrev main_call5_v2 : Ref sig .tc := ⟨.hbm, 80, rfl⟩
abbrev main_call5_v3 : Ref sig .tc := ⟨.hbm, 81, rfl⟩
abbrev main_call5_v4 : Ref sig .tc := ⟨.hbm, 82, rfl⟩
abbrev main_call5_v5 : Ref sig .tc := ⟨.hbm, 83, rfl⟩
abbrev main_call5_c_1 : Ref sig .tc := ⟨.hbm, 84, rfl⟩
abbrev main_call5_c_2 : Ref sig .tc := ⟨.hbm, 85, rfl⟩
abbrev main_call5_v6 : Ref sig .tc := ⟨.hbm, 86, rfl⟩
abbrev main_call5_v7 : Ref sig .tc := ⟨.hbm, 87, rfl⟩
abbrev main_call5_v8 : Ref sig .tc := ⟨.hbm, 88, rfl⟩
abbrev main_call5_v9 : Ref sig .tc := ⟨.hbm, 89, rfl⟩
abbrev main_call5_v10 : Ref sig .tc := ⟨.hbm, 90, rfl⟩
abbrev main_call5_v11 : Ref sig .tc := ⟨.hbm, 91, rfl⟩
abbrev main_call5_c_3 : Ref sig .tc := ⟨.hbm, 92, rfl⟩
abbrev main_call5_v12 : Ref sig .tc := ⟨.hbm, 93, rfl⟩
abbrev main_call5_v13 : Ref sig .tc := ⟨.hbm, 94, rfl⟩
abbrev main_call5_cst : Ref sig .tc := ⟨.hbm, 95, rfl⟩
abbrev main_call5_v14 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_cst_4 : Ref sig .tc := ⟨.hbm, 100, rfl⟩
abbrev main_v38 : Ref sig .tc := ⟨.hbm, 101, rfl⟩
abbrev main_v39 : Ref sig .tc := ⟨.hbm, 102, rfl⟩
abbrev main_call6_cst : Ref sig .tc := ⟨.hbm, 103, rfl⟩
abbrev main_call6_v0 : Ref sig .tc := ⟨.hbm, 104, rfl⟩
abbrev main_v40 : Ref sig .tc := ⟨.hbm, 105, rfl⟩
abbrev main_c_5 : Ref sig .tc := ⟨.hbm, 106, rfl⟩
abbrev main_v41 : Ref sig .tc := ⟨.hbm, 107, rfl⟩
abbrev main_c_6 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_c_7 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_cst_8 : Ref sig .tc := ⟨.hbm, 116, rfl⟩
abbrev main_v48 : Ref sig .tc := ⟨.hbm, 117, rfl⟩
abbrev main_v49 : Ref sig .tc := ⟨.hbm, 118, rfl⟩
abbrev main_cst_9 : Ref sig .tc := ⟨.hbm, 119, rfl⟩
abbrev main_v50 : Ref sig .tc := ⟨.hbm, 120, rfl⟩
abbrev main_v51 : Ref sig .tc := ⟨.hbm, 121, rfl⟩

abbrev nD : Nat := 1
abbrev τ : Topo := Topo.v7x

variable {F : FTy → Type} [FloatOps F]
-- ==== Proof.KBody.lean ====
/-
  What the body leaves at each of the two grid points, as values of the blocks it reads: the class histogram, the
  tile's loss sum and its count of valid rows (`hist`, `tileLoss`, `tileCnt`), at any float interpretation.
-/
module

public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Val
open Cert.KernelIdeal Cert.KernelIdeal.Gen
variable {F : FTy → Type} [FloatOps F]

/-- Chunk `k`'s 256 rows lie among the 4096 embeddings. -/
theorem inbRows (k : Fin 16) : ∀ a, (![256 * k.val, 0] : Fin 2 → Nat) a + S256x64.size a ≤ S4096x64.size a := by
  intro a
  have := k.isLt
  fin_cases a
  · show 256 * k.val + 256 ≤ 4096; omega
  · show 0 + 64 ≤ 64; omega

/-- Chunk `k`'s 256 labels lie among the 4096. -/
theorem inbLanes (k : Fin 16) : ∀ a, (![0, 256 * k.val] : Fin 2 → Nat) a + S1x256.size a ≤ S1x4096.size a := by
  intro a
  have := k.isLt
  fin_cases a
  · show 0 + 1 ≤ 1; omega
  · show 256 * k.val + 256 ≤ 4096; omega

/-- The embeddings of chunk `k`. -/
def chunkRows (x1 : Vec F S4096x64 .f32) (k : Fin 16) : Vec F S256x64 .f32 :=
  View.ld x1 (Rect.unit (s := S4096x64) ![256 * k.val, 0] S256x64.size (inbRows k))

/-- The labels of chunk `k`. -/
def chunkLanes (x3 : Vec F S1x4096 .i32) (k : Fin 16) : Vec F S1x256 .i32 :=
  View.ld x3 (Rect.unit (s := S1x4096) ![0, 256 * k.val] S1x256.size (inbLanes k))

/-- The running maximum over chunks `0 … n`: each row's largest partial distance among the columns of its label. -/
def maxTo (x0 : Vec F S2048x64 .f32) (x1 : Vec F S4096x64 .f32) (x2 : Vec F S2048x1 .i32) (x3 : Vec F S1x4096 .i32) :
    (n : ℕ) → n < 16 → FVec F S2048x1 .f32
  | 0, h => k0_pay8 x0 x2 (chunkRows x1 ⟨0, h⟩) (chunkLanes (F := F) x3 ⟨0, h⟩)
  | n + 1, h => maximumf (maxTo x0 x1 x2 x3 n (Nat.lt_of_succ_lt h))
      (k0_pay8 x0 x2 (chunkRows x1 ⟨n + 1, h⟩) (chunkLanes (F := F) x3 ⟨n + 1, h⟩))

/-- The running minimum over chunks `0 … n`: each row's smallest partial distance among the columns of other labels. -/
def minTo (x0 : Vec F S2048x64 .f32) (x1 : Vec F S4096x64 .f32) (x2 : Vec F S2048x1 .i32) (x3 : Vec F S1x4096 .i32) :
    (n : ℕ) → n < 16 → FVec F S2048x1 .f32
  | 0, h => k0_pay9 x0 x2 (chunkRows x1 ⟨0, h⟩) (chunkLanes (F := F) x3 ⟨0, h⟩)
  | n + 1, h => minimumf (minTo x0 x1 x2 x3 n (Nat.lt_of_succ_lt h))
      (k0_pay9 x0 x2 (chunkRows x1 ⟨n + 1, h⟩) (chunkLanes (F := F) x3 ⟨n + 1, h⟩))

/-- The tile's sum of losses, over the class counts `h` the histogram scratch holds. -/
def tileLoss (x0 : Vec F S2048x64 .f32) (x1 : Vec F S4096x64 .f32) (x2 : Vec F S2048x1 .i32) (x3 : Vec F S1x4096 .i32)
    (h : Vec F S128x1 .f32) : F .f32 :=
  k0_pay83 (k0_pay5 x0) (maxTo x0 x1 x2 x3 15 (by decide)) (minTo x0 x1 x2 x3 15 (by decide)) (k0_pay81 (F := F) (k0_pay4 (F := F) x2)) h

/-- The tile's count of valid rows. -/
def tileCnt (x0 : Vec F S2048x64 .f32) (x1 : Vec F S4096x64 .f32) (x2 : Vec F S2048x1 .i32) (x3 : Vec F S1x4096 .i32)
    (h : Vec F S128x1 .f32) : BitVec 32 :=
  extractAt ![0, 0, 0] (k0_pay84 (minTo x0 x1 x2 x3 15 (by decide)) (k0_pay81 (F := F) (k0_pay4 (F := F) x2)) h) inpos_S1x1x1_p0_0_0

/-- Zero offsets, of one axis and of two. -/
theorem hz1 : (![0] : Fin 1 → Nat) = fun _ => 0 := funext fun a => by fin_cases a; rfl
theorem hz2 : (![0, 0] : Fin 2 → Nat) = fun _ => 0 := funext fun a => by fin_cases a <;> rfl

/-- The one element of a one-element array, read through the load of all of it. -/
theorem ld_first {e : EltTy} (x : Vec F S1 e) (inb : ∀ a, (![0] : Fin 1 → Nat) a + S1.size a ≤ S1.size a)
    (h : 0 < S1.numel) :
    View.ld x (Rect.unit (s := S1) ![0] S1.size inb) (Shape.Idx.first h) = x (Shape.Idx.first (by decide)) := by
  refine congrArg x (funext fun a => ?_)
  fin_cases a
  exact Fin.ext (by first | rfl | (show 0 + 1 * 0 = 0; rfl) | simp)

set_option maxHeartbeats 1000000 in
/-- The first point leaves the class histogram of all labels. -/
theorem sout0_A_2_eq (c : Dev nD) (i : grid0.Coords) (arg1 : Memref sig .tc .vmem S2048x64 .f32) (harg1 : arg1.IsWhole) (arg2 : Memref sig .tc .vmem S4096x64 .f32) (harg2
    : arg2.IsWhole) (arg3 : Memref sig .tc .vmem S2048x1 .i32) (harg3 : arg3.IsWhole) (arg4 : Memref sig .tc .vmem S1x4096 .i32) (harg4 : arg4.IsWhole)
    (arg5 : Memref sig .tc .smem S1x1 .f32) (harg5 : arg5.IsWhole) (arg6 : Memref sig .tc .smem S1x1 .i32) (harg6 : arg6.IsWhole) (arg7 : Memref sig .tc
    .smem S1 .f32) (harg7 : arg7.IsWhole) (arg8 : Memref sig .tc .smem S1 .i32) (harg8 : arg8.IsWhole) (arg9 : Memref sig .tc .vmem S128x1 .f32) (harg9 :
    arg9.IsWhole) (hc0 : cond0_0 i) (hc1 : cond0_1 i) (hc2 : ¬cond0_2 i) (hc3 : ¬cond0_3 i) (x0 : Vec F S2048x64 .f32) (x1 : Vec F S4096x64 .f32) (x2 :
    Vec F S2048x1 .i32) (x3 : Vec F S1x4096 .i32) :
    sout0_A_2 c i arg1 harg1 arg2 harg2 arg3 harg3 arg4 harg4 arg5 harg5 arg6 harg6 arg7 harg7 arg8 harg8 arg9 harg9 hc0 hc1 hc2 hc3 x0 x1 x2 x3
      = k0_pay3 x3 := by
  unfold sout0_A_2
  rw [View.read_writes_eq_canon _ _ _ (scover0_A_2 c i arg1 harg1 arg2 harg2 arg3 harg3 arg4 harg4 arg5 harg5 arg6 harg6 arg7 harg7 arg8 harg8 arg9 harg9 hc0 hc1 hc2 hc3 x0 x1 x2 x3)]
  unfold kernelRun0_A
  dsimp only
  sl_unfold_words
  rw [View.canon_unit_zero hz2]
  simp only [View.readAt_eq_ld, harg1.read_unread, harg2.read_unread, harg3.read_unread, harg4.read_unread, harg7.read_unread, harg8.read_unread, harg9.read_unread,
    View.ld_unit_zero (S := S2048x64) hz2, View.ld_unit_zero (S := S2048x1) hz2, View.ld_unit_zero (S := S1x4096) hz2, View.ld_unit_zero (S := S128x1) hz2,
    View.readCov_unit_zero (S := S128x1) _ hz2, View.readCov_unit_zero (S := S1) _ hz1]

set_option maxHeartbeats 1000000 in
/-- The first point leaves its tile's loss sum in the running sum. -/
theorem sout0_A_0_eq (c : Dev nD) (i : grid0.Coords) (arg1 : Memref sig .tc .vmem S2048x64 .f32) (harg1 : arg1.IsWhole) (arg2 : Memref sig .tc .vmem S4096x64 .f32) (harg2
    : arg2.IsWhole) (arg3 : Memref sig .tc .vmem S2048x1 .i32) (harg3 : arg3.IsWhole) (arg4 : Memref sig .tc .vmem S1x4096 .i32) (harg4 : arg4.IsWhole)
    (arg5 : Memref sig .tc .smem S1x1 .f32) (harg5 : arg5.IsWhole) (arg6 : Memref sig .tc .smem S1x1 .i32) (harg6 : arg6.IsWhole) (arg7 : Memref sig .tc
    .smem S1 .f32) (harg7 : arg7.IsWhole) (arg8 : Memref sig .tc .smem S1 .i32) (harg8 : arg8.IsWhole) (arg9 : Memref sig .tc .vmem S128x1 .f32) (harg9 :
    arg9.IsWhole) (hc0 : cond0_0 i) (hc1 : cond0_1 i) (hc2 : ¬cond0_2 i) (hc3 : ¬cond0_3 i) (x0 : Vec F S2048x64 .f32) (x1 : Vec F S4096x64 .f32) (x2 :
    Vec F S2048x1 .i32) (x3 : Vec F S1x4096 .i32) :
    sout0_A_0 c i arg1 harg1 arg2 harg2 arg3 harg3 arg4 harg4 arg5 harg5 arg6 harg6 arg7 harg7 arg8 harg8 arg9 harg9 hc0 hc1 hc2 hc3 x0 x1 x2 x3
      = (fun _ => tileLoss x0 x1 x2 x3 (k0_pay3 x3)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 hc2 hc3 x0 x1 x2 x3)]
  unfold kernelRun0_A
  dsimp only
  sl_unfold_words
  rw [View.canon_unit_zero hz1]
  simp only [View.readAt_eq_ld, harg1.read_unread, harg2.read_unread, harg3.read_unread, harg4.read_unread, harg7.read_unread, harg8.read_unread, harg9.read_unread,
    View.ld_unit_zero (S := S2048x64) hz2, View.ld_unit_zero (S := S2048x1) hz2, View.ld_unit_zero (S := S1x4096) hz2, View.ld_unit_zero (S := S128x1) hz2,
    View.readCov_unit_zero (S := S128x1) _ hz2, View.readCov_unit_zero (S := S1) _ hz1]
  rfl

set_option maxHeartbeats 1000000 in
/-- The first point leaves its tile's count in the running count. -/
theorem sout0_A_1_eq (c : Dev nD) (i : grid0.Coords) (arg1 : Memref sig .tc .vmem S2048x64 .f32) (harg1 : arg1.IsWhole) (arg2 : Memref sig .tc .vmem S4096x64 .f32) (harg2
    : arg2.IsWhole) (arg3 : Memref sig .tc .vmem S2048x1 .i32) (harg3 : arg3.IsWhole) (arg4 : Memref sig .tc .vmem S1x4096 .i32) (harg4 : arg4.IsWhole)
    (arg5 : Memref sig .tc .smem S1x1 .f32) (harg5 : arg5.IsWhole) (arg6 : Memref sig .tc .smem S1x1 .i32) (harg6 : arg6.IsWhole) (arg7 : Memref sig .tc
    .smem S1 .f32) (harg7 : arg7.IsWhole) (arg8 : Memref sig .tc .smem S1 .i32) (harg8 : arg8.IsWhole) (arg9 : Memref sig .tc .vmem S128x1 .f32) (harg9 :
    arg9.IsWhole) (hc0 : cond0_0 i) (hc1 : cond0_1 i) (hc2 : ¬cond0_2 i) (hc3 : ¬cond0_3 i) (x0 : Vec F S2048x64 .f32) (x1 : Vec F S4096x64 .f32) (x2 :
    Vec F S2048x1 .i32) (x3 : Vec F S1x4096 .i32) :
    sout0_A_1 c i arg1 harg1 arg2 harg2 arg3 harg3 arg4 harg4 arg5 harg5 arg6 harg6 arg7 harg7 arg8 harg8 arg9 harg9 hc0 hc1 hc2 hc3 x0 x1 x2 x3
      = (fun _ => tileCnt x0 x1 x2 x3 (k0_pay3 x3)) := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 hc2 hc3 x0 x1 x2 x3)]
  unfold kernelRun0_A
  dsimp only
  sl_unfold_words
  rw [View.canon_unit_zero hz1]
  simp only [View.readAt_eq_ld, harg1.read_unread, harg2.read_unread, harg3.read_unread, harg4.read_unread, harg7.read_unread, harg8.read_unread, harg9.read_unread,
    View.ld_unit_zero (S := S2048x64) hz2, View.ld_unit_zero (S := S2048x1) hz2, View.ld_unit_zero (S := S1x4096) hz2, View.ld_unit_zero (S := S128x1) hz2,
    View.readCov_unit_zero (S := S128x1) _ hz2, View.readCov_unit_zero (S := S1) _ hz1]
  rfl

set_option maxHeartbeats 1000000 in
/-- The last point writes the running count, its own tile's added. -/
theorem out0_B_5_eq (c : Dev nD) (i : grid0.Coords) (arg1 : Memref sig .tc .vmem S2048x64 .f32) (harg1 : arg1.IsWhole) (arg2 : Memref sig .tc .vmem S4096x64 .f32) (harg2
    : arg2.IsWhole) (arg3 : Memref sig .tc .vmem S2048x1 .i32) (harg3 : arg3.IsWhole) (arg4 : Memref sig .tc .vmem S1x4096 .i32) (harg4 : arg4.IsWhole)
    (arg5 : Memref sig .tc .smem S1x1 .f32) (harg5 : arg5.IsWhole) (arg6 : Memref sig .tc .smem S1x1 .i32) (harg6 : arg6.IsWhole) (arg7 : Memref sig .tc
    .smem S1 .f32) (harg7 : arg7.IsWhole) (arg8 : Memref sig .tc .smem S1 .i32) (harg8 : arg8.IsWhole) (arg9 : Memref sig .tc .vmem S128x1 .f32) (harg9 :
    arg9.IsWhole) (hc0 : ¬cond0_0 i) (hc1 : ¬cond0_1 i) (hc2 : cond0_2 i) (hc3 : cond0_3 i) (x0 : Vec F S2048x64 .f32) (x1 : Vec F S4096x64 .f32) (x2 :
    Vec F S2048x1 .i32) (x3 : Vec F S1x4096 .i32) (xs0 : Vec F S1 .f32) (xs1 : Vec F S1 .i32) (xs2 : Vec F S128x1 .f32) :
    out0_B_5 c i arg1 harg1 arg2 harg2 arg3 harg3 arg4 harg4 arg5 harg5 arg6 harg6 arg7 harg7 arg8 harg8 arg9 harg9 hc0 hc1 hc2 hc3 x0 x1 x2 x3 xs0 xs1 xs2
      = (fun _ => Scalar.addi (xs1 (Shape.Idx.first (by decide))) (tileCnt x0 x1 x2 x3 xs2)) := by
  unfold out0_B_5
  rw [View.read_writes_eq_canon _ _ _ (cover0_B_5 c i arg1 harg1 arg2 harg2 arg3 harg3 arg4 harg4 arg5 harg5 arg6 harg6 arg7 harg7 arg8 harg8 arg9 harg9 hc0 hc1 hc2 hc3 x0 x1 x2 x3 xs0 xs1 xs2)]
  unfold kernelRun0_B
  dsimp only
  sl_unfold_words
  rw [View.canon_unit_zero hz2]
  simp only [View.readAt_eq_ld, harg1.read_unread, harg2.read_unread, harg3.read_unread, harg4.read_unread, harg7.read_unread, harg8.read_unread, harg9.read_unread,
    View.ld_unit_zero (S := S2048x64) hz2, View.ld_unit_zero (S := S2048x1) hz2, View.ld_unit_zero (S := S1x4096) hz2, View.ld_unit_zero (S := S128x1) hz2,
    View.readCov_unit_zero (S := S128x1) _ hz2, View.readCov_unit_zero (S := S1) _ hz1]
  exact funext fun _ => congrArg (fun a => Scalar.addi a (tileCnt x0 x1 x2 x3 xs2)) (ld_first xs1 _ _)

set_option maxHeartbeats 1000000 in
/-- The last point writes the quotient of the running sum and the running count, its own tile's added. -/
theorem out0_B_4_eq (c : Dev nD) (i : grid0.Coords) (arg1 : Memref sig .tc .vmem S2048x64 .f32) (harg1 : arg1.IsWhole) (arg2 : Memref sig .tc .vmem S4096x64 .f32) (harg2
    : arg2.IsWhole) (arg3 : Memref sig .tc .vmem S2048x1 .i32) (harg3 : arg3.IsWhole) (arg4 : Memref sig .tc .vmem S1x4096 .i32) (harg4 : arg4.IsWhole)
    (arg5 : Memref sig .tc .smem S1x1 .f32) (harg5 : arg5.IsWhole) (arg6 : Memref sig .tc .smem S1x1 .i32) (harg6 : arg6.IsWhole) (arg7 : Memref sig .tc
    .smem S1 .f32) (harg7 : arg7.IsWhole) (arg8 : Memref sig .tc .smem S1 .i32) (harg8 : arg8.IsWhole) (arg9 : Memref sig .tc .vmem S128x1 .f32) (harg9 :
    arg9.IsWhole) (hc0 : ¬cond0_0 i) (hc1 : ¬cond0_1 i) (hc2 : cond0_2 i) (hc3 : cond0_3 i) (x0 : Vec F S2048x64 .f32) (x1 : Vec F S4096x64 .f32) (x2 :
    Vec F S2048x1 .i32) (x3 : Vec F S1x4096 .i32) (xs0 : Vec F S1 .f32) (xs1 : Vec F S1 .i32) (xs2 : Vec F S128x1 .f32) :
    out0_B_4 c i arg1 harg1 arg2 harg2 arg3 harg3 arg4 harg4 arg5 harg5 arg6 harg6 arg7 harg7 arg8 harg8 arg9 harg9 hc0 hc1 hc2 hc3 x0 x1 x2 x3 xs0 xs1 xs2
      = (fun _ => k0_pay2 (F := F) (Scalar.addi (xs1 (Shape.Idx.first (by decide))) (tileCnt x0 x1 x2 x3 xs2)) (k0_pay1 (tileLoss x0 x1 x2 x3 xs2) (xs0 (Shape.Idx.first (by decide))))) := by
  unfold out0_B_4
  rw [View.read_writes_eq_canon _ _ _ (cover0_B_4 c i arg1 harg1 arg2 harg2 arg3 harg3 arg4 harg4 arg5 harg5 arg6 harg6 arg7 harg7 arg8 harg8 arg9 harg9 hc0 hc1 hc2 hc3 x0 x1 x2 x3 xs0 xs1 xs2)]
  unfold kernelRun0_B
  dsimp only
  sl_unfold_words
  rw [View.canon_unit_zero hz2]
  simp only [View.readAt_eq_ld, harg1.read_unread, harg2.read_unread, harg3.read_unread, harg4.read_unread, harg7.read_unread, harg8.read_unread, harg9.read_unread,
    View.ld_unit_zero (S := S2048x64) hz2, View.ld_unit_zero (S := S2048x1) hz2, View.ld_unit_zero (S := S1x4096) hz2, View.ld_unit_zero (S := S128x1) hz2,
    View.readCov_unit_zero (S := S128x1) _ hz2, View.readCov_unit_zero (S := S1) _ hz1]
  exact funext fun _ => congrArg₂ (fun a b => k0_pay2 (F := F) (Scalar.addi a (tileCnt x0 x1 x2 x3 xs2)) (k0_pay1 (tileLoss x0 x1 x2 x3 xs2) b))
    (ld_first xs1 _ _) (ld_first xs0 _ _)

end Cert.KernelIdeal.Val
end
-- ==== Proof.KRun.lean ====
/-
  The kernel's run, read: both scalar results as values of the two tiles' loss sums and counts, the arguments
  unchanged, at any float interpretation.
-/
module

public import proofs.«01_k».proof.Proof.KBody
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.KernelIdeal.Val
open Cert.KernelIdeal Cert.KernelIdeal.Gen
variable {F : FTy → Type} [FloatOps F]
variable (m : (ℓ : Loc nD τ sig) → Buf (Elt F) ℓ) (ρ : Dev nD → PrngReg)

/-- The class histogram, as the first point leaves it. -/
def hist (c : Dev nD) : Vec F S128x1 .f32 := k0_pay3 (iblk m c 3 t0_0)

/-- Tile `t`'s loss sum. -/
def loss (c : Dev nD) (t : Fin cfg0.N) : F .f32 :=
  tileLoss (iblk m c 0 t) (iblk m c 1 t) (iblk m c 2 t) (iblk m c 3 t) (hist m c)

/-- Tile `t`'s count of valid rows. -/
def cnt (c : Dev nD) (t : Fin cfg0.N) : BitVec 32 :=
  tileCnt (iblk m c 0 t) (iblk m c 1 t) (iblk m c 2 t) (iblk m c 3 t) (hist m c)

/-- The running sum after the first point. -/
theorem scr_loss (c : Dev nD) (h : 0 < cfg0.N) : (outsAt0 m c 0 h).2.2.1 = fun _ => loss m c t0_0 :=
  by
  rw [show outsAt0 m c 0 h = _ from outsAt0_A m c t0_0 rfl rfl (by decide) (by decide)]
  dsimp only
  rw [sout0_A_0_eq]
  rfl

/-- The running count after the first point. -/
theorem scr_cnt (c : Dev nD) (h : 0 < cfg0.N) : (outsAt0 m c 0 h).2.2.2.1 = fun _ => cnt m c t0_0 :=
  by
  rw [show outsAt0 m c 0 h = _ from outsAt0_A m c t0_0 rfl rfl (by decide) (by decide)]
  dsimp only
  rw [sout0_A_1_eq]
  rfl

/-- The histogram after the first point. -/
theorem scr_hist (c : Dev nD) (h : 0 < cfg0.N) : (outsAt0 m c 0 h).2.2.2.2 = hist m c :=
  by
  rw [show outsAt0 m c 0 h = _ from outsAt0_A m c t0_0 rfl rfl (by decide) (by decide)]
  dsimp only
  rw [sout0_A_2_eq]
  rfl

/-- The number of valid rows, of both tiles. -/
def total (c : Dev nD) : BitVec 32 := Scalar.addi (cnt m c t0_0) (cnt m c t0_1)

/-- The mean loss: both tiles' sums, over the count. -/
def mean (c : Dev nD) : F .f32 := k0_pay2 (total m c) (k0_pay1 (loss m c t0_1) (loss m c t0_0))

/-- The loss output after the last point. -/
theorem outs_mean (c : Dev nD) (h : 1 < cfg0.N) : (outsAt0 m c 1 h).1 = fun _ => mean m c := by
  rw [show outsAt0 m c 1 h = _ from outsAt0_B m c t0_1 (by decide) (by decide) rfl rfl]
  dsimp only
  have hp : t0_1.val - 1 < cfg0.N := Nat.lt_of_succ_lt h
  have e1 : (outsAt0 m c (t0_1.val - 1) hp).2.2.2.1 = fun _ => cnt m c t0_0 := scr_cnt m c _
  have e2 : (outsAt0 m c (t0_1.val - 1) hp).2.2.2.2 = hist m c := scr_hist m c _
  have e0 : (outsAt0 m c (t0_1.val - 1) hp).2.2.1 = fun _ => loss m c t0_0 := scr_loss m c _
  rw [out0_B_4_eq, e1, e2, e0]
  rfl

/-- The count output after the last point. -/
theorem outs_total (c : Dev nD) (h : 1 < cfg0.N) : (outsAt0 m c 1 h).2.1 = fun _ => total m c := by
  rw [show outsAt0 m c 1 h = _ from outsAt0_B m c t0_1 (by decide) (by decide) rfl rfl]
  dsimp only
  have hp : t0_1.val - 1 < cfg0.N := Nat.lt_of_succ_lt h
  have e1 : (outsAt0 m c (t0_1.val - 1) hp).2.2.2.1 = fun _ => cnt m c t0_0 := scr_cnt m c _
  have e2 : (outsAt0 m c (t0_1.val - 1) hp).2.2.2.2 = hist m c := scr_hist m c _
  rw [out0_B_5_eq, e1, e2]
  rfl

/-- The result arrays, as contents. -/
abbrev res4 (c : Dev nD) : Buf (Elt F) ((c : Thread nD τ).loc main_v2_0) := fun _ => mean m c
abbrev res5 (c : Dev nD) : Buf (Elt F) ((c : Thread nD τ).loc main_v2_1) := fun _ => total m c

/-- The write-back of the loss, at the last point, writes the mean. -/
theorem flushed4_eq (c : Dev nD) (t : Fin cfg0.N) (hf : (cfg0.win 4).flush t = true) :
    (dats m 0 c).flushed 4 t = ((cfg0.win 4).blk t).view.read (Elt F) (res4 m c) := by
  have h1 : t.val % 2 = 1 := (flush0_4 t).mp hf
  rcases fin_N0 t with rfl | rfl
  · exact absurd h1 (by decide)
  show (cfg0.win 4).cut (grid0.coords t0_1) ((dats m 0 c).after 4 t0_1) = _
  rw [after0_4, show (outsAt0 m c t0_1.val t0_1.isLt).1 = _ from outs_mean m c _]
  rfl

/-- The write-back of the count, at the last point, writes the total. -/
theorem flushed5_eq (c : Dev nD) (t : Fin cfg0.N) (hf : (cfg0.win 5).flush t = true) :
    (dats m 0 c).flushed 5 t = ((cfg0.win 5).blk t).view.read (Elt F) (res5 m c) := by
  have h1 : t.val % 2 = 1 := (flush0_5 t).mp hf
  rcases fin_N0 t with rfl | rfl
  · exact absurd h1 (by decide)
  show (cfg0.win 5).cut (grid0.coords t0_1) ((dats m 0 c).after 5 t0_1) = _
  rw [after0_5, show (outsAt0 m c t0_1.val t0_1.isLt).2.1 = _ from outs_total m c _]
  rfl

/-- The loss array ends holding the mean. -/
theorem final4 (c : Dev nD) : (dats m 0 c).arrAt 4 cfg0.N = res4 m c :=
  (dats m 0 c).arrAt_eq_of_cover 4 (res4 m c) (flushed4_eq m c) fun i =>
    ⟨t0_1, (flush0_4 t0_1).mpr rfl, by
      show i ∈ ((View.whole main_v2_0).slice (win0_4.rect t0_1)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_1 0 * win0_4.size 0 ≤ (i 0 : Nat) ∧ (i 0 : Nat) < win0_4.index t0_1 0 * win0_4.size 0 + win0_4.xsize (grid0.coords t0_1) 0
                  rw [show win0_4.index t0_1 0 * win0_4.size 0 = 0 from by decide +kernel, show win0_4.xsize (grid0.coords t0_1) 0 = 1 from by decide +kernel]; omega
      | ⟨1, _⟩ => show win0_4.index t0_1 1 * win0_4.size 1 ≤ (i 1 : Nat) ∧ (i 1 : Nat) < win0_4.index t0_1 1 * win0_4.size 1 + win0_4.xsize (grid0.coords t0_1) 1
                  rw [show win0_4.index t0_1 1 * win0_4.size 1 = 0 from by decide +kernel, show win0_4.xsize (grid0.coords t0_1) 1 = 1 from by decide +kernel]; omega⟩

/-- The count array ends holding the total. -/
theorem final5 (c : Dev nD) : (dats m 0 c).arrAt 5 cfg0.N = res5 m c :=
  (dats m 0 c).arrAt_eq_of_cover 5 (res5 m c) (flushed5_eq m c) fun i =>
    ⟨t0_1, (flush0_5 t0_1).mpr rfl, by
      show i ∈ ((View.whole main_v2_1).slice (win0_5.rect t0_1)).set
      rw [View.set_slice_whole, Rect.mem_set_unit]
      intro a
      have h0 : (i 0 : Nat) < 1 := (i 0).isLt
      have h1 : (i 1 : Nat) < 1 := (i 1).isLt
      match a with
      | ⟨0, _⟩ => show win0_5.index t0_1 0 * win0_5.size 0 ≤ (i 0 : Nat) ∧ (i 0 : Nat) < win0_5.index t0_1 0 * win0_5.size 0 + win0_5.xsize (grid0.coords t0_1) 0
                  rw [show win0_5.index t0_1 0 * win0_5.size 0 = 0 from by decide +kernel, show win0_5.xsize (grid0.coords t0_1) 0 = 1 from by decide +kernel]; omega
      | ⟨1, _⟩ => show win0_5.index t0_1 1 * win0_5.size 1 ≤ (i 1 : Nat) ∧ (i 1 : Nat) < win0_5.index t0_1 1 * win0_5.size 1 + win0_5.xsize (grid0.coords t0_1) 1
                  rw [show win0_5.index t0_1 1 * win0_5.size 1 = 0 from by decide +kernel, show win0_5.xsize (grid0.coords t0_1) 1 = 1 from by decide +kernel]; omega⟩

/-- The loss scalar, after the closing reshapes. -/
theorem W_main_v3 (c : Dev nD) :
    Pipeline.afterTail₀ cfgs (dats m) 0 (V0 m) [hostOps1] c main_v3 = fun _ => mean m c := by
  have e := (dats m 0 c).withArrays_arrAt sharedIn0 (V0 m c) (A_eq m c) 4
  unfold Pipeline.afterTail₀
  show StableHlo.after hostOps1 _ _ = _
  unfold hostOps1
  after_results
  rw [show Pipeline.withArrays (cfgs 0).spec c (V0 m c) (fun w => (dats m 0 c).arrAt w (cfgs 0).N) (Proc.devRef .tc main_v2_0) = _ from e.trans (final4 m c)]
  rfl

/-- The count scalar, after the closing reshapes. -/
theorem W_main_v4 (c : Dev nD) :
    Pipeline.afterTail₀ cfgs (dats m) 0 (V0 m) [hostOps1] c main_v4 = fun _ => total m c := by
  have e := (dats m 0 c).withArrays_arrAt sharedIn0 (V0 m c) (A_eq m c) 5
  unfold Pipeline.afterTail₀
  show StableHlo.after hostOps1 _ _ = _
  unfold hostOps1
  after_results
  rw [show Pipeline.withArrays (cfgs 0).spec c (V0 m c) (fun w => (dats m 0 c).arrAt w (cfgs 0).N) (Proc.devRef .tc main_v2_1) = _ from e.trans (final5 m c)]
  rfl

/-- The run, read: the mean and the count in the two result scalars, the arguments unchanged. -/
theorem run : θ_run defs (onTc (τ := τ) (main (F := F))) ⟨m, fun _ => 0, ρ⟩ fun r => ∀ c : Dev nD,
      r.2.mem ((c.tc : Thread nD τ).loc main_v3) = (fun _ => mean m c)
      ∧ r.2.mem ((c.tc : Thread nD τ).loc main_v4) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (W_main_v3 m c),
     ((h c).2 main_v4 (Pipeline.mem_restRefs_of main_v4 (by decide) (by decide))).trans (W_main_v4 m c),
     ((h c).1 1).trans (((dats m 0 c).arrAt_in 1 rfl _).trans ((A_eq m c 1).trans (V_main_arg0 m c))),
     ((h c).2 main_arg1 (Pipeline.mem_restRefs_of main_arg1 (by decide) (by decide))).trans (W_main_arg1 m (dats m) c)⟩)
    (run_main m ρ)

end Cert.KernelIdeal.Val
end
-- ==== Proof.KBlocks.lean ====
/-
  What each window's block holds of the two arguments: a tile's rows, all rows, a tile's labels, all labels.
-/
module

public import proofs.«01_k».proof.Proof.KRun
public import Idealize.ShloMosaic.Lib.Pointwise
public import Idealize.ShloMosaic.Lib.StableHlo.RunRead
public import Idealize.ShloMosaic.Lib.Tactic

@[expose] public section

set_option maxRecDepth 16384

noncomputable section

open Idealize.ShloMosaic Idealize.ShloMosaic.Pointwise Idealize.ShloMosaic.TcCoe Idealize.ShloMosaic.StableHlo

namespace Cert.KernelIdeal.Val
open Cert.KernelIdeal Cert.KernelIdeal.Gen
variable {F : FTy → Type} [FloatOps F]
variable (m : (ℓ : Loc nD τ sig) → Buf (Elt F) ℓ)

/-- Tile `t`'s row `r`, among all rows. -/
def rowOf (t : Fin cfg0.N) (r : Fin 2048) : Fin 4096 :=
  ⟨2048 * t.val + r.val, by have h : t.val < 2 := t.isLt; have := r.isLt; omega⟩

/-- The labels as a column, when the launch starts. -/
theorem V_main_v0 (c : Dev nD) : (V m c main_v0 : Vec F S4096x1 .i32)
    = shapeCast S4096x1 (m ((c : Thread nD τ).loc main_arg1) : Vec F S4096 .i32) shapeCasts_S4096_S4096x1 := by
  show StableHlo.after hostOps0 (fun b => m (c, b)) (Proc.devRef .tc main_v0) = _
  unfold hostOps0
  after_results
  rfl

/-- The labels as a row, when the launch starts. -/
theorem V_main_v1 (c : Dev nD) : (V m c main_v1 : Vec F S1x4096 .i32)
    = shapeCast S1x4096 (m ((c : Thread nD τ).loc main_arg1) : Vec F S4096 .i32) shapeCasts_S4096_S1x4096 := by
  show StableHlo.after hostOps0 (fun b => m (c, b)) (Proc.devRef .tc main_v1) = _
  unfold hostOps0
  after_results
  rfl

/-- The first window holds the tile's rows. -/
theorem blk0_at (c : Dev nD) (t : Fin cfg0.N) (r : Fin 2048) (k : Fin 64) :
    (iblk m c 0 t : Vec F S2048x64 .f32) (ix2 r k) = (m ((c : Thread nD τ).loc main_arg0) : Vec F S4096x64 .f32) (ix2 (rowOf t r) k) := by
  have hi : win0_0.index t 0 = t.val ∧ win0_0.index t 1 = 0 := by rcases fin_N0 t with rfl | rfl <;> decide
  unfold iblk
  rw [View.read_apply]
  show V m c main_arg0 _ = _
  rw [V_main_arg0]
  refine congrArg _ (funext fun a => Fin.ext ?_)
  match a with
  | ⟨0, _⟩ => show win0_0.index t 0 * 2048 + 1 * r.val = 2048 * t.val + r.val; rw [hi.1]; omega
  | ⟨1, _⟩ => show win0_0.index t 1 * 64 + 1 * k.val = k.val; rw [hi.2]; omega

/-- The second window holds all rows. -/
theorem blk1_at (c : Dev nD) (t : Fin cfg0.N) (j : Fin 4096) (k : Fin 64) :
    (iblk m c 1 t : Vec F S4096x64 .f32) (ix2 j k) = (m ((c : Thread nD τ).loc main_arg0) : Vec F S4096x64 .f32) (ix2 j k) := by
  have hi : win0_1.index t 0 = 0 ∧ win0_1.index t 1 = 0 := by rcases fin_N0 t with rfl | rfl <;> decide
  unfold iblk
  rw [View.read_apply]
  show V m c main_arg0 _ = _
  rw [V_main_arg0]
  refine congrArg _ (funext fun a => Fin.ext ?_)
  match a with
  | ⟨0, _⟩ => show win0_1.index t 0 * 4096 + 1 * j.val = j.val; rw [hi.1]; omega
  | ⟨1, _⟩ => show win0_1.index t 1 * 64 + 1 * k.val = k.val; rw [hi.2]; omega

/-- The third window holds the tile's labels. -/
theorem blk2_at (c : Dev nD) (t : Fin cfg0.N) (r : Fin 2048) :
    (iblk m c 2 t : Vec F S2048x1 .i32) (ix2 r (0 : Fin 1)) = (m ((c : Thread nD τ).loc main_arg1) : Vec F S4096 .i32) (ix1 (rowOf t r)) := by
  have hi : win0_2.index t 0 = t.val ∧ win0_2.index t 1 = 0 := by rcases fin_N0 t with rfl | rfl <;> decide
  have hv : (V m c main_v0 : Vec F S4096x1 .i32) (ix2 (rowOf t r) (0 : Fin 1))
      = (m ((c : Thread nD τ).loc main_arg1) : Vec F S4096 .i32) (ix1 (rowOf t r)) := by
    rw [V_main_v0]
    pointwise []
  unfold iblk
  rw [View.read_apply]
  show V m c main_v0 _ = _
  refine Eq.trans (congrArg _ (funext fun a => Fin.ext ?_)) hv
  match a with
  | ⟨0, _⟩ => show win0_2.index t 0 * 2048 + 1 * r.val = 2048 * t.val + r.val; rw [hi.1]; omega
  | ⟨1, _⟩ => show win0_2.index t 1 * 1 + 1 * 0 = 0; rw [hi.2]

/-- The fourth window holds all labels. -/
theorem blk3_at (c : Dev nD) (t : Fin cfg0.N) (j : Fin 4096) :
    (iblk m c 3 t : Vec F S1x4096 .i32) (ix2 (0 : Fin 1) j) = (m ((c : Thread nD τ).loc main_arg1) : Vec F S4096 .i32) (ix1 j) := by
  have hi : win0_3.index t 0 = 0 ∧ win0_3.index t 1 = 0 := by rcases fin_N0 t with rfl | rfl <;> decide
  have hv : (V m c main_v1 : Vec F S1x4096 .i32) (ix2 (0 : Fin 1) j)
      = (m ((c : Thread nD τ).loc main_arg1) : Vec F S4096 .i32) (ix1 j) := by
    rw [V_main_v1]
    exact (shapeCast_addUnit_apply ![4096] (m ((c : Thread nD τ).loc main_arg1) : Vec F S4096 .i32) shapeCasts_S4096_S1x4096 (ix2 (0 : Fin 1) j)).trans
      (congrArg _ (funext fun a => by match a with | ⟨0, _⟩ => rfl))
  unfold iblk
  rw [View.read_apply]
  show V m c main_v1 _ = _
  refine Eq.trans (congrArg _ (funext fun a => Fin.ext ?_)) hv
  match a with
  | ⟨0, _⟩ => show win0_3.index t 0 * 1 + 1 * 0 = 0; rw [hi.1]
  | ⟨1, _⟩ => show win0_3.index t 1 * 4096 + 1 * j.val = j.val; rw [hi.2]; omega

end Cert.KernelIdeal.Val
end
-- ==== Proof.Consts.lean ====
/-
  The float words both programs print, as extended reals.
-/
module

public import Idealize.ShloMosaic.Lib.Pointwise

@[expose] public section

noncomputable section

open Idealize.ShloMosaic

namespace Cert.Triplet

/-- The word of minus infinity. -/
theorem word_bot : Ideal.ofBits .f32 0xFF800000#32 = ⊥ := by simp [Ideal.ofBits, Ideal.ieee]
/-- The word of infinity. -/
theorem word_top : Ideal.ofBits .f32 0x7F800000#32 = ⊤ := by simp [Ideal.ofBits, Ideal.ieee]
/-- The word of two. -/
theorem word_two : Ideal.ofBits .f32 0x40000000#32 = ((2 : ℝ) : EReal) := by
  simp [Ideal.ofBits, Ideal.ieee, -EReal.coe_mul]; try norm_num
/-- The word of one and a half. -/
theorem word_threeHalves : Ideal.ofBits .f32 0x3FC00000#32 = ((3 / 2 : ℝ) : EReal) := by
  simp [Ideal.ofBits, Ideal.ieee, -EReal.coe_mul]; norm_num

/-- A test for equal words chooses as the equation does. -/
theorem select_eq {α : Type} (a b : BitVec 32) (u v : α) : Scalar.select (IntOp.cmpi .eq a b) u v = if a = b then u else v := by
  unfold IntOp.cmpi
  rw [Scalar.select_ofBool]
  by_cases h : a = b
  · subst h; simp
  · simp only [beq_iff_eq, h, if_false]

end Cert.Triplet
end
-- ==== Proof.KTile.lean ====
/-
  One tile of the idealized kernel, read row by row: its sum of losses and its count of valid rows.
-/
module

public import proofs.«01_k».proof.Proof.KBody
public import proofs.«01_k».proof.Proof.Consts
public import Idealize.ShloMosaic.Lib.Pointwise
public import Mathlib.Data.BitVec

@[expose] public section

set_option maxRecDepth 16384

noncomputable section

open Idealize.ShloMosaic Idealize.ShloMosaic.Pointwise Cert.Triplet

namespace Cert.KernelIdeal.Val
open Cert.KernelIdeal Cert.KernelIdeal.Gen

/-- Column `l` of chunk `k`, among all columns. -/
def col (k : Fin 16) (l : Fin 256) : Fin 4096 := ⟨256 * k.val + l.val, by omega⟩

/-- A chunk's row is the row of all embeddings it was cut from. -/
theorem chunkRows_at (x1 : Vec Ideal S4096x64 .f32) (k : Fin 16) (l : Fin 256) (a : Fin 64) :
    chunkRows x1 k (ix2 l a) = x1 (ix2 (col k l) a) := by
  unfold chunkRows
  pointwise
  rfl

/-- A chunk's label is the label of all labels it was cut from. -/
theorem chunkLanes_at (x3 : Vec Ideal S1x4096 .i32) (k : Fin 16) (l : Fin 256) :
    chunkLanes (F := Ideal) x3 k (ix2 (0 : Fin 1) l) = x3 (ix2 (0 : Fin 1) (col k l)) := by
  unfold chunkLanes
  pointwise
  rfl

section Tile
variable (x0 : Vec Ideal S2048x64 .f32) (x1 : Vec Ideal S4096x64 .f32) (x2 : Vec Ideal S2048x1 .i32) (x3 : Vec Ideal S1x4096 .i32)

/-- A row's partial distance to an embedding: everything but the row's own squared norm. -/
def part (r : Fin 2048) (j : Fin 4096) : EReal :=
  (∑ k : Fin 64, x1 (ix2 j k) * x1 (ix2 j k)) - ((2 : ℝ) : EReal) * ∑ k : Fin 64, x0 (ix2 r k) * x1 (ix2 j k)

/-- That distance where the labels agree, minus infinity elsewhere. -/
def sameCol (r : Fin 2048) (j : Fin 4096) : EReal := if x2 (ix2 r (0 : Fin 1)) = x3 (ix2 (0 : Fin 1) j) then part x0 x1 r j else ⊥

/-- That distance where the labels differ, infinity elsewhere. -/
def otherCol (r : Fin 2048) (j : Fin 4096) : EReal := if x2 (ix2 r (0 : Fin 1)) = x3 (ix2 (0 : Fin 1) j) then ⊤ else part x0 x1 r j

/-- A chunk's maximum, over its columns. -/
theorem chunkMax_at (k : Fin 16) (r : Fin 2048) :
    k0_pay8 (F := Ideal) x0 x2 (chunkRows x1 k) (chunkLanes (F := Ideal) x3 k) (ix2 r (0 : Fin 1))
      = Finset.univ.sup fun l => sameCol x0 x1 x2 x3 r (col k l) := by
  pointwise [k0_pay8, k0_pay7, k0_pay6, k0_pay4]
  simp only [select_eq, word_bot, word_two, chunkRows_at, chunkLanes_at]
  rfl

/-- A chunk's minimum, over its columns. -/
theorem chunkMin_at (k : Fin 16) (r : Fin 2048) :
    k0_pay9 (F := Ideal) x0 x2 (chunkRows x1 k) (chunkLanes (F := Ideal) x3 k) (ix2 r (0 : Fin 1))
      = Finset.univ.inf fun l => otherCol x0 x1 x2 x3 r (col k l) := by
  pointwise [k0_pay9, k0_pay7, k0_pay6, k0_pay4]
  simp only [select_eq, word_top, word_two, chunkRows_at, chunkLanes_at]
  rfl

/-- Every column lies in one chunk. -/
theorem forall_col (P : Fin 4096 → Prop) (n : ℕ) (hn : n < 16) :
    (∀ j : Fin 4096, j.val < 256 * (n + 1) → P j) ↔ (∀ j : Fin 4096, j.val < 256 * n → P j) ∧ ∀ l, P (col ⟨n, hn⟩ l) := by
  constructor
  · exact fun h => ⟨fun j hj => h j (by omega), fun l => h _ (by show 256 * n + l.val < _; omega)⟩
  · rintro ⟨h, h'⟩ j hj
    by_cases hl : j.val < 256 * n
    · exact h j hl
    · have := h' ⟨j.val - 256 * n, by omega⟩
      have e : col ⟨n, hn⟩ ⟨j.val - 256 * n, by omega⟩ = j := Fin.ext (by show 256 * n + (j.val - 256 * n) = j.val; omega)
      rwa [e] at this

/-- The running maximum is the least bound of the columns passed. -/
theorem maxTo_le (r : Fin 2048) (b : EReal) : ∀ (n : ℕ) (hn : n < 16),
    maxTo x0 x1 x2 x3 n hn (ix2 r (0 : Fin 1)) ≤ b ↔ ∀ j : Fin 4096, j.val < 256 * (n + 1) → sameCol x0 x1 x2 x3 r j ≤ b
  | 0, hn => by
    rw [forall_col _ 0 hn, maxTo, chunkMax_at, Finset.sup_le_iff]
    simp
  | n + 1, hn => by
    rw [forall_col _ (n + 1) hn, ← maxTo_le r b n (Nat.lt_of_succ_lt hn), maxTo]
    have e : ∀ u v : FVec Ideal S2048x1 .f32, maximumf u v (ix2 r (0 : Fin 1)) = max (u (ix2 r (0 : Fin 1))) (v (ix2 r (0 : Fin 1))) := fun _ _ => rfl
    rw [e, max_le_iff, chunkMax_at, Finset.sup_le_iff]
    simp

/-- The running minimum is the greatest bound of the columns passed. -/
theorem le_minTo (r : Fin 2048) (b : EReal) : ∀ (n : ℕ) (hn : n < 16),
    b ≤ minTo x0 x1 x2 x3 n hn (ix2 r (0 : Fin 1)) ↔ ∀ j : Fin 4096, j.val < 256 * (n + 1) → b ≤ otherCol x0 x1 x2 x3 r j
  | 0, hn => by
    rw [forall_col _ 0 hn, minTo, chunkMin_at, Finset.le_inf_iff]
    simp
  | n + 1, hn => by
    rw [forall_col _ (n + 1) hn, ← le_minTo r b n (Nat.lt_of_succ_lt hn), minTo]
    have e : ∀ u v : FVec Ideal S2048x1 .f32, minimumf u v (ix2 r (0 : Fin 1)) = min (u (ix2 r (0 : Fin 1))) (v (ix2 r (0 : Fin 1))) := fun _ _ => rfl
    rw [e, le_min_iff, chunkMin_at, Finset.le_inf_iff]
    simp

/-- A row's largest partial distance among the columns of its label. -/
def far (r : Fin 2048) : EReal := Finset.univ.sup (sameCol x0 x1 x2 x3 r)
/-- A row's smallest partial distance among the columns of other labels. -/
def near (r : Fin 2048) : EReal := Finset.univ.inf (otherCol x0 x1 x2 x3 r)

/-- The sixteen chunks together pass every column: the maximum. -/
theorem maxTo_at (r : Fin 2048) : maxTo x0 x1 x2 x3 15 (by decide) (ix2 r (0 : Fin 1)) = far x0 x1 x2 x3 r :=
  eq_of_forall_ge_iff fun b => by
    rw [maxTo_le, far, Finset.sup_le_iff]
    exact ⟨fun h j _ => h j j.isLt, fun h j _ => h j (Finset.mem_univ _)⟩

/-- The sixteen chunks together pass every column: the minimum. -/
theorem minTo_at (r : Fin 2048) : minTo x0 x1 x2 x3 15 (by decide) (ix2 r (0 : Fin 1)) = near x0 x1 x2 x3 r :=
  eq_of_forall_le_iff fun b => by
    rw [le_minTo, near, Finset.le_inf_iff]
    exact ⟨fun h j _ => h j j.isLt, fun h j _ => h j (Finset.mem_univ _)⟩

/-- A row's squared norm. -/
def norm2 (r : Fin 2048) : EReal := ∑ k : Fin 64, x0 (ix2 r k) * x0 (ix2 r k)

/-- The kernel's squared norms. -/
theorem norm2_at (r : Fin 2048) : k0_pay5 (F := Ideal) x0 (ix2 r (0 : Fin 1)) = norm2 x0 r := by
  pointwise [k0_pay5]
  rfl

/-- How often a class occurs among the labels. -/
def occurs (c : Fin 128) : EReal := ∑ j : Fin 4096, if x3 (ix2 (0 : Fin 1) j) = BitVec.ofNat 32 c.val then 1 else 0

/-- The kernel's histogram. -/
theorem hist_at (c : Fin 128) : k0_pay3 (F := Ideal) x3 (ix2 c (0 : Fin 1)) = occurs x3 c := by
  pointwise [k0_pay3]
  simp only [select_eq]
  rfl

/-- How often a row's own class occurs, by the kernel's product of the row's one-hot vector and the histogram. -/
def members (r : Fin 2048) : EReal :=
  ∑ c : Fin 128, (if x2 (ix2 r (0 : Fin 1)) = BitVec.ofNat 32 c.val then 1 else 0) * occurs x3 c

/-- Whether the kernel counts a row: its class occurs more than one and a half times, and some column differs. -/
def ok (r : Fin 2048) : Prop := ((3 / 2 : ℝ) : EReal) < members x2 x3 r ∧ near x0 x1 x2 x3 r < ⊤

/-- The kernel's test of a row. -/
theorem ok_at (r : Fin 2048) :
    k0_pay82 (F := Ideal) (minTo x0 x1 x2 x3 15 (by decide)) (k0_pay81 (F := Ideal) (k0_pay4 (F := Ideal) x2)) (k0_pay3 (F := Ideal) x3)
      (ix2 r (0 : Fin 1)) = 1#1 ↔ ok x0 x1 x2 x3 r := by
  have ho : ∀ c : Fin 128, k0_pay81 (F := Ideal) (k0_pay4 (F := Ideal) x2) (ix2 r c)
      = if x2 (ix2 r (0 : Fin 1)) = BitVec.ofNat 32 c.val then 1 else 0 := by
    intro c
    pointwise [k0_pay81, k0_pay4]
    simp only [select_eq]
  pointwise [k0_pay82]
  simp only [ho, hist_at, minTo_at, word_top, word_threeHalves]
  unfold ok members
  by_cases h1 : ((3 / 2 : ℝ) : EReal) < ∑ c : Fin 128, (if x2 (ix2 r (0 : Fin 1)) = BitVec.ofNat 32 c.val then 1 else 0) * occurs x3 c <;>
    by_cases h2 : near x0 x1 x2 x3 r < ⊤ <;> simp only [h1, h2] <;> decide

open Classical in
/-- What a row adds to the sum of losses. -/
def rowLoss (r : Fin 2048) : EReal :=
  if ok x0 x1 x2 x3 r then
    max (max (norm2 x0 r + far x0 x1 x2 x3 r) 0 - max (norm2 x0 r + near x0 x1 x2 x3 r) 0 + 1) 0 else 0

open Classical in
/-- What a row adds to the count. -/
def rowCnt (r : Fin 2048) : BitVec 32 := if ok x0 x1 x2 x3 r then 1#32 else 0#32

/-- The tile's sum of losses is its rows'. -/
theorem tileLoss_eq : tileLoss x0 x1 x2 x3 (k0_pay3 (F := Ideal) x3) = ∑ r : Fin 2048, rowLoss x0 x1 x2 x3 r := by
  unfold tileLoss
  pointwise [k0_pay83]
  refine Finset.sum_congr rfl fun r _ => ?_
  rw [Fin.sum_univ_one, maxTo_at, minTo_at, norm2_at, rowLoss, Scalar.select]
  by_cases h : ok x0 x1 x2 x3 r
  · rw [if_pos h]; exact if_pos ((ok_at x0 x1 x2 x3 r).mpr h)
  · rw [if_neg h]; exact if_neg fun g => h ((ok_at x0 x1 x2 x3 r).mp g)

/-- The tile's count is its rows'. -/
theorem tileCnt_eq : tileCnt x0 x1 x2 x3 (k0_pay3 (F := Ideal) x3) = ∑ r : Fin 2048, rowCnt x0 x1 x2 x3 r := by
  unfold tileCnt
  pointwise [k0_pay84]
  have e : ∀ p : Fin 2048 × Fin 1, BitVec.setWidth 32 (k0_pay82 (F := Ideal) (minTo x0 x1 x2 x3 15 (by decide))
      (k0_pay81 (F := Ideal) (k0_pay4 (F := Ideal) x2)) (k0_pay3 (F := Ideal) x3) (ix2 p.1 (0 : Fin 1))) = rowCnt x0 x1 x2 x3 p.1 := by
    intro p
    unfold rowCnt
    by_cases h : ok x0 x1 x2 x3 p.1
    · rw [if_pos h, (ok_at x0 x1 x2 x3 p.1).mpr h]; rfl
    · rw [if_neg h]
      rcases BitVec.eq_zero_or_eq_one (k0_pay82 (F := Ideal) (minTo x0 x1 x2 x3 15 (by decide))
        (k0_pay81 (F := Ideal) (k0_pay4 (F := Ideal) x2)) (k0_pay3 (F := Ideal) x3) (ix2 p.1 (0 : Fin 1))) with g | g
      · rw [g]; rfl
      · exact absurd ((ok_at x0 x1 x2 x3 p.1).mp g) h
  simp only [e]
  show ∑ p : Fin 2048 × Fin 1, rowCnt x0 x1 x2 x3 p.1 = _
  rw [Fintype.sum_prod_type]
  exact Finset.sum_congr rfl fun r _ => Fin.sum_univ_one _

end Tile

end Cert.KernelIdeal.Val
end
-- ==== Proof.Math.lean ====
/-
  The mathematics of one row, over any finite embeddings and labels: the kernel's choice of the farthest positive, of the
  nearest negative and of the valid rows is the reference's.
-/
module

public import Idealize.ShloMosaic.Lib.Pointwise

@[expose] public section

noncomputable section

namespace Cert.Triplet

variable (X : Fin 4096 → Fin 64 → EReal) (T : Fin 4096 → BitVec 32)

/-- A row's squared norm. -/
def sq (i : Fin 4096) : EReal := ∑ k : Fin 64, X i k * X i k
/-- Two rows' product. -/
def dot (i j : Fin 4096) : EReal := ∑ k : Fin 64, X i k * X j k
/-- The distance less the row's own squared norm. -/
def half (i j : Fin 4096) : EReal := sq X j - ((2 : ℝ) : EReal) * dot X i j
/-- The squared distance, clamped at zero. -/
def dist (i j : Fin 4096) : EReal := max (sq X i + sq X j - ((2 : ℝ) : EReal) * dot X i j) 0

/-- A positive: the same label, another row. -/
def Pos (i j : Fin 4096) : Prop := T i = T j ∧ i ≠ j
/-- A valid row: it has a positive and a negative. -/
def Valid (i : Fin 4096) : Prop := (∃ j, Pos T i j) ∧ ∃ j, T i ≠ T j

/-- The largest partial distance over the row's label. -/
def farHalf (i : Fin 4096) : EReal := Finset.univ.sup fun j => if T i = T j then half X i j else ⊥
/-- The smallest partial distance over the other labels. -/
def nearHalf (i : Fin 4096) : EReal := Finset.univ.inf fun j => if T i = T j then ⊤ else half X i j

open Classical in
/-- What a row adds to the sum of losses. -/
def lossRow (r : Fin 4096) : EReal :=
  if Valid T r then max (max (sq X r + farHalf X T r) 0 - max (sq X r + nearHalf X T r) 0 + 1) 0 else 0

open Classical in
/-- What a row adds to the count. -/
def countRow (r : Fin 4096) : BitVec 32 := if Valid T r then 1#32 else 0#32

/-- A clamped distance is the row's squared norm plus the partial distance, clamped. -/
theorem dist_eq (i j : Fin 4096) : dist X i j = max (sq X i + half X i j) 0 := by
  unfold dist half
  rw [sub_eq_add_neg, sub_eq_add_neg, add_assoc]

section Finite
variable {X} (x : Fin 4096 → Fin 64 → ℝ) (hx : ∀ i k, X i k = (x i k : EReal))
include hx

/-- A finite sum of numbers is a number. -/
theorem dot_coe (i j : Fin 4096) : dot X i j = ((∑ k, x i k * x j k : ℝ) : EReal) := by
  unfold dot
  simp only [hx, ← EReal.coe_mul]
  exact (map_sum (⟨⟨(fun r : ℝ => (r : EReal)), rfl⟩, fun a b => EReal.coe_add a b⟩ : ℝ →+ EReal) _ _).symm

/-- So is a partial distance. -/
theorem half_coe (i j : Fin 4096) : half X i j = ((∑ k, x j k * x j k - 2 * ∑ k, x i k * x j k : ℝ) : EReal) := by
  unfold half
  rw [show sq X j = dot X j j from rfl, dot_coe x hx, dot_coe x hx, ← EReal.coe_mul, ← EReal.coe_sub]

/-- A partial distance is below infinity. -/
theorem half_lt (i j : Fin 4096) : half X i j < ⊤ := by
  rw [half_coe x hx]; exact EReal.coe_lt_top _

/-- A row is at distance zero from itself. -/
theorem sq_add_half_self (i : Fin 4096) : sq X i + half X i i = 0 := by
  rw [show sq X i = dot X i i from rfl, half_coe x hx, dot_coe x hx, ← EReal.coe_add, ← EReal.coe_zero]
  congr 1; ring

/-- A distance is below infinity. -/
theorem dist_lt (i j : Fin 4096) : dist X i j < ⊤ := by
  rw [dist_eq, show sq X i = dot X i i from rfl, half_coe x hx, dot_coe x hx, ← EReal.coe_add]
  exact max_lt (EReal.coe_lt_top _) (by simp)

/-- The farthest positive: where the masked distances are largest, the kernel's clamped maximum. -/
theorem far_eq (i k : Fin 4096) (hp : ∃ j, Pos T i j)
    (hk : ∀ j, (open Classical in if Pos T i j then dist X i j else ⊥) ≤ (open Classical in if Pos T i k then dist X i k else ⊥)) :
    dist X i k = max (sq X i + farHalf X T i) 0 := by
  classical
  obtain ⟨p, hp⟩ := hp
  have hkp : Pos T i k := by
    by_contra h
    have := hk p
    rw [if_pos hp, if_neg h, le_bot_iff] at this
    have h0 : (0 : EReal) ≤ dist X i p := le_max_right _ _
    rw [this] at h0
    exact absurd h0 (by simp)
  rw [if_pos hkp] at hk
  apply le_antisymm
  · rw [dist_eq]
    refine max_le_max (add_le_add le_rfl ?_) le_rfl
    have := Finset.le_sup (f := fun j => if T i = T j then half X i j else ⊥) (Finset.mem_univ k)
    rw [if_pos hkp.1] at this
    exact this
  · obtain ⟨j, -, hj⟩ := Finset.exists_mem_eq_sup Finset.univ Finset.univ_nonempty (fun j => if T i = T j then half X i j else ⊥)
    have h0 : (0 : EReal) ≤ dist X i k := le_max_right _ _
    refine max_le ?_ h0
    rw [farHalf, hj]
    by_cases hs : T i = T j
    · rw [if_pos hs]
      by_cases hij : i = j
      · subst hij; rw [sq_add_half_self x hx]; exact h0
      · have := hk j
        rw [if_pos ⟨hs, hij⟩, dist_eq X i j] at this
        exact (le_max_left _ _).trans this
    · rw [if_neg hs, EReal.add_bot]; exact bot_le

/-- The nearest negative: where the masked distances are smallest, the kernel's clamped minimum. -/
theorem near_eq (i k : Fin 4096) (hn : ∃ j, T i ≠ T j)
    (hk : ∀ j, (if T i = T k then ⊤ else dist X i k) ≤ (if T i = T j then ⊤ else dist X i j)) :
    dist X i k = max (sq X i + nearHalf X T i) 0 := by
  obtain ⟨p, hp⟩ := hn
  have hkn : T i ≠ T k := by
    intro h
    have := hk p
    rw [if_pos h, if_neg hp, top_le_iff] at this
    exact absurd this (dist_lt x hx i p).ne
  rw [if_neg hkn] at hk
  apply le_antisymm
  · obtain ⟨j, -, hj⟩ := Finset.exists_mem_eq_inf Finset.univ Finset.univ_nonempty (fun j => if T i = T j then ⊤ else half X i j)
    rw [nearHalf, hj]
    by_cases hs : T i = T j
    · have := Finset.inf_le (f := fun j => if T i = T j then ⊤ else half X i j) (Finset.mem_univ k)
      rw [hj] at this
      simp only [if_pos hs, if_neg hkn, top_le_iff] at this
      exact absurd this (half_lt x hx i k).ne
    · rw [if_neg hs, ← dist_eq]
      have := hk j
      rwa [if_neg hs] at this
  · rw [dist_eq]
    refine max_le_max (add_le_add le_rfl ?_) le_rfl
    have := Finset.inf_le (f := fun j => if T i = T j then ⊤ else half X i j) (Finset.mem_univ k)
    rw [if_neg hkn] at this
    exact this

/-- The kernel's minimum is finite exactly when a negative exists. -/
theorem near_lt (i : Fin 4096) : nearHalf X T i < ⊤ ↔ ∃ j, T i ≠ T j := by
  constructor
  · intro h
    by_contra hn
    push Not at hn
    refine absurd h (not_lt.mpr ?_)
    refine Finset.le_inf fun j _ => ?_
    rw [if_pos (hn j)]
  · rintro ⟨j, hj⟩
    refine lt_of_le_of_lt (Finset.inf_le (Finset.mem_univ j)) ?_
    rw [if_neg hj]
    exact half_lt x hx i j

end Finite

/-- A sum of ones over a condition is the number of its cases. -/
theorem sum_ones {ι : Type} [Fintype ι] (p : ι → Prop) [DecidablePred p] :
    ∑ j, (if p j then (1 : EReal) else 0) = (((Finset.univ.filter p).card : ℝ) : EReal) := by
  have e : ∀ n : ℕ, n • (1 : EReal) = ((n : ℝ) : EReal) := by
    intro n
    induction n with
    | zero => simp
    | succ n ih => rw [succ_nsmul, ih, Nat.cast_succ, EReal.coe_add, EReal.coe_one]
  rw [← Finset.sum_filter, Finset.sum_const, e]

/-- How often a label occurs. -/
def occurrences (c : BitVec 32) : EReal := ∑ j : Fin 4096, if T j = c then 1 else 0

/-- A row's label occurs more than one and a half times exactly when the row has a positive. -/
theorem occurrences_gt (i : Fin 4096) : ((3 / 2 : ℝ) : EReal) < occurrences T (T i) ↔ ∃ j, Pos T i j := by
  unfold occurrences
  rw [sum_ones, EReal.coe_lt_coe_iff]
  have hc : ((3 / 2 : ℝ) < ((Finset.univ.filter fun j => T j = T i).card : ℝ)) ↔ 1 < (Finset.univ.filter fun j => T j = T i).card := by
    constructor
    · intro h
      by_contra h'
      have : ((Finset.univ.filter fun j => T j = T i).card : ℝ) ≤ 1 := by exact_mod_cast not_lt.mp h'
      linarith
    · intro h
      have : (2 : ℝ) ≤ ((Finset.univ.filter fun j => T j = T i).card : ℝ) := by exact_mod_cast h
      linarith
  rw [hc, Finset.one_lt_card_iff]
  constructor
  · rintro ⟨a, b, ha, hb, hab⟩
    simp only [Finset.mem_filter, Finset.mem_univ, true_and] at ha hb
    by_cases hi : i = a
    · exact ⟨b, hb.symm, fun e => hab (hi.symm.trans e)⟩
    · exact ⟨a, ha.symm, hi⟩
  · rintro ⟨j, hj, hne⟩
    exact ⟨i, j, by simp, by simp [hj], hne⟩

/-- A row's one-hot vector against the class counts is its own class's count, when its label is one of the 128 classes. -/
theorem members_eq (t : BitVec 32) (ht : t.toNat < 128) :
    ∑ c : Fin 128, (if t = BitVec.ofNat 32 c.val then (1 : EReal) else 0) * occurrences T (BitVec.ofNat 32 c.val) = occurrences T t := by
  have e : BitVec.ofNat 32 t.toNat = t := by simp
  rw [Finset.sum_eq_single (⟨t.toNat, ht⟩ : Fin 128)]
  · rw [if_pos e.symm, one_mul, e]
  · intro c _ hc
    rw [if_neg, zero_mul]
    intro h
    apply hc
    apply Fin.ext
    have := congrArg BitVec.toNat h
    rw [BitVec.toNat_ofNat, Nat.mod_eq_of_lt (by omega)] at this
    exact this.symm
  · exact fun h => absurd (Finset.mem_univ _) h

end Cert.Triplet
end
-- ==== Proof.KValue.lean ====
/-
  The idealized kernel's two results as formulas over the rows: the same count and the same sum of losses as the
  reference's, where every embedding is a real number and every label is a class.
-/
module

public import proofs.«01_k».proof.Proof.KBlocks
public import proofs.«01_k».proof.Proof.KTile
public import proofs.«01_k».proof.Proof.Math

@[expose] public section

set_option maxRecDepth 16384

noncomputable section

open Idealize.ShloMosaic Idealize.ShloMosaic.Pointwise Idealize.ShloMosaic.TcCoe Cert.Triplet

namespace Cert.KernelIdeal.Val
open Cert.KernelIdeal Cert.KernelIdeal.Gen

section Tile
variable (x0 : Vec Ideal S2048x64 .f32) (x1 : Vec Ideal S4096x64 .f32) (x2 : Vec Ideal S2048x1 .i32) (x3 : Vec Ideal S1x4096 .i32)
variable (X : Fin 4096 → Fin 64 → EReal) (T : Fin 4096 → BitVec 32) (ro : Fin 2048 → Fin 4096)
variable (h0 : ∀ r k, x0 (ix2 r k) = X (ro r) k) (h1 : ∀ j k, x1 (ix2 j k) = X j k)
variable (h2 : ∀ r, x2 (ix2 r (0 : Fin 1)) = T (ro r)) (h3 : ∀ j, x3 (ix2 (0 : Fin 1) j) = T j)
include h0 h1

/-- The tile's partial distances are the halves. -/
theorem part_eq (r : Fin 2048) (j : Fin 4096) : part x0 x1 r j = half X (ro r) j := by
  unfold part half Triplet.sq dot
  simp only [h0, h1]

include h2 h3

/-- The tile's running maxima are the largest halves among the same label. -/
theorem far_half (r : Fin 2048) : far x0 x1 x2 x3 r = farHalf X T (ro r) := by
  unfold far farHalf
  refine Finset.sup_congr rfl fun j _ => ?_
  unfold sameCol
  rw [h2, h3, part_eq x0 x1 X ro h0 h1]

/-- The tile's running minima are the smallest halves among the other labels. -/
theorem near_half (r : Fin 2048) : near x0 x1 x2 x3 r = nearHalf X T (ro r) := by
  unfold near nearHalf
  refine Finset.inf_congr rfl fun j _ => ?_
  unfold otherCol
  rw [h2, h3, part_eq x0 x1 X ro h0 h1]

/-- The tile's test of a row is that it has a positive and a negative. -/
theorem ok_iff (x : Fin 4096 → Fin 64 → ℝ) (hx : ∀ i k, X i k = (x i k : EReal)) (hT : ∀ i, (T i).toNat < 128) (r : Fin 2048) :
    ok x0 x1 x2 x3 r ↔ Valid T (ro r) := by
  have hm : members x2 x3 r = occurrences T (T (ro r)) := by
    unfold members occurs
    rw [← members_eq T (T (ro r)) (hT _), h2]
    simp only [h3]
    rfl
  unfold ok
  rw [hm, near_half x0 x1 x2 x3 X T ro h0 h1 h2 h3]
  exact and_congr (occurrences_gt T (ro r)) (near_lt T x hx (ro r))

/-- The tile's row adds the row's loss. -/
theorem rowLoss_eq (x : Fin 4096 → Fin 64 → ℝ) (hx : ∀ i k, X i k = (x i k : EReal)) (hT : ∀ i, (T i).toNat < 128) (r : Fin 2048) :
    rowLoss x0 x1 x2 x3 r = lossRow X T (ro r) := by
  have hn : norm2 x0 r = Triplet.sq X (ro r) := by
    unfold norm2 Triplet.sq
    simp only [h0]
  have hk := ok_iff x0 x1 x2 x3 X T ro h0 h1 h2 h3 x hx hT r
  unfold rowLoss lossRow
  rw [hn, far_half x0 x1 x2 x3 X T ro h0 h1 h2 h3, near_half x0 x1 x2 x3 X T ro h0 h1 h2 h3]
  by_cases h : Valid T (ro r)
  · rw [if_pos (hk.mpr h), if_pos h]
  · rw [if_neg (fun g => h (hk.mp g)), if_neg h]

/-- The tile's row adds one to the count if it is valid. -/
theorem rowCnt_eq (x : Fin 4096 → Fin 64 → ℝ) (hx : ∀ i k, X i k = (x i k : EReal)) (hT : ∀ i, (T i).toNat < 128) (r : Fin 2048) :
    rowCnt x0 x1 x2 x3 r = countRow T (ro r) := by
  have hk := ok_iff x0 x1 x2 x3 X T ro h0 h1 h2 h3 x hx hT r
  unfold rowCnt countRow
  by_cases h : Valid T (ro r)
  · rw [if_pos (hk.mpr h), if_pos h]
  · rw [if_neg (fun g => h (hk.mp g)), if_neg h]

end Tile

variable (m : (ℓ : Loc nD τ sig) → Buf (Elt Ideal) ℓ) (c : Dev nD)

/-- The embeddings by row and column. -/
abbrev rows : Fin 4096 → Fin 64 → EReal := fun i k => (m ((c : Thread nD τ).loc main_arg0) : Vec Ideal S4096x64 .f32) (ix2 i k)

/-- The labels by row. -/
abbrev labels : Fin 4096 → BitVec 32 := fun i => (m ((c : Thread nD τ).loc main_arg1) : Vec Ideal S4096 .i32) (ix1 i)

/-- The histogram, of either tile's copy of all labels. -/
theorem hist_eq (t : Fin cfg0.N) : hist m c = k0_pay3 (F := Ideal) (iblk m c 3 t : Vec Ideal S1x4096 .i32) := by
  unfold hist
  refine congrArg k0_pay3 (funext fun j => ?_)
  have hj : ∀ t : Fin cfg0.N, (iblk m c 3 t : Vec Ideal S1x4096 .i32) j = labels m c (j 1) := by
    intro t
    have e : j = ix2 (0 : Fin 1) (j 1) := by
      funext a
      match a with
      | ⟨0, _⟩ => exact Fin.ext (by have : (j 0).val < 1 := (j 0).isLt; show (j 0).val = 0; omega)
      | ⟨1, _⟩ => rfl
    exact (congrArg _ e).trans (blk3_at m c t (j 1))
  exact (hj t0_0).trans (hj t).symm

variable (x : Fin 4096 → Fin 64 → ℝ) (hx : ∀ i k, rows m c i k = (x i k : EReal)) (hT : ∀ i, (labels m c i).toNat < 128)
include hx hT

/-- A tile's sum of losses. -/
theorem loss_eq (t : Fin cfg0.N) : loss m c t = ∑ r : Fin 2048, lossRow (rows m c) (labels m c) (rowOf t r) := by
  unfold loss
  rw [hist_eq m c t]
  refine (tileLoss_eq (iblk m c 0 t) (iblk m c 1 t) (iblk m c 2 t) (iblk m c 3 t)).trans (Finset.sum_congr rfl fun r _ => ?_)
  exact rowLoss_eq _ _ _ _ (rows m c) (labels m c) (rowOf t) (blk0_at m c t) (blk1_at m c t) (blk2_at m c t) (blk3_at m c t) x hx hT r

/-- A tile's count. -/
theorem cnt_eq (t : Fin cfg0.N) : cnt m c t = ∑ r : Fin 2048, countRow (labels m c) (rowOf t r) := by
  unfold cnt
  rw [hist_eq m c t]
  refine (tileCnt_eq (iblk m c 0 t) (iblk m c 1 t) (iblk m c 2 t) (iblk m c 3 t)).trans (Finset.sum_congr rfl fun r _ => ?_)
  exact rowCnt_eq _ _ _ _ (rows m c) (labels m c) (rowOf t) (blk0_at m c t) (blk1_at m c t) (blk2_at m c t) (blk3_at m c t) x hx hT r

/-- The count of valid rows. -/
theorem total_eq : total m c = ∑ r : Fin 4096, countRow (labels m c) r := by
  unfold total
  rw [cnt_eq m c x hx hT, cnt_eq m c x hx hT, Fin.sum_univ_two_halves 2048 2048 rfl]
  refine congrArg₂ (fun a b : BitVec 32 => a + b) (Finset.sum_congr rfl fun r _ => ?_) rfl
  refine congrArg _ (Fin.ext ?_)
  show 2048 * 0 + r.val = r.val
  omega

/-- The mean of the valid rows' losses. -/
theorem mean_eq : mean m c
    = Ideal.div (∑ r : Fin 4096, lossRow (rows m c) (labels m c) r) (max (FloatOps.sitofp (F := Ideal) .f32 (total m c)) 1) := by
  have hs : loss m c t0_0 + loss m c t0_1 = ∑ r : Fin 4096, lossRow (rows m c) (labels m c) r := by
    rw [loss_eq m c x hx hT, loss_eq m c x hx hT, Fin.sum_univ_two_halves 2048 2048 rfl]
    refine congrArg₂ (fun a b : EReal => a + b) (Finset.sum_congr rfl fun r _ => ?_) rfl
    refine congrArg _ (Fin.ext ?_)
    show 2048 * 0 + r.val = r.val
    omega
  rw [← hs]
  unfold mean
  generalize loss m c t0_0 = a
  generalize loss m c t0_1 = b
  generalize total m c = n
  pointwise [k0_pay2, k0_pay1]
  rfl

end Cert.KernelIdeal.Val
end
-- ==== Proof.RefRun.lean ====
/-
  The reference's run, read: its operations in five lines, and the two scalar results as values of the arguments, at any
  float interpretation.
-/
module

public import proofs.«01_k».proof.Proof.Gen.ReferenceIdeal
public import Idealize.ShloMosaic.Lib.Pipeline.Value
public import Idealize.ShloMosaic.Lib.StableHlo.Run
public import Idealize.ShloMosaic.Lib.StableHlo.RunRead
public import Idealize.ShloMosaic.Lib.Tactic

@[expose] public section

set_option maxRecDepth 16384

noncomputable section

open Idealize.ShloMosaic Idealize.ShloMosaic.TcCoe Idealize.SL.Sem Idealize.ShloMosaic.StableHlo

namespace Cert.ReferenceIdeal.Val
open Cert.ReferenceIdeal Cert.ReferenceIdeal.Gen
variable {F : FTy → Type} [FloatOps F]

/-- Operations of the reference: the distances and the two masks. -/
abbrev opsA : List (HloOp τ sig (Elt F)) :=
  [ StableHlo.binary main_arg0 main_arg0 main_v0 (mulf : (⟨S4096x64, .f32⟩ : BufTy).Contents (Elt F) → (⟨S4096x64, .f32⟩ : BufTy).Contents (Elt F) → (⟨S4096x64, .f32⟩ : BufTy).Contents (Elt F)),
    StableHlo.nullary main_cst (constant S_ .f32 0x00000000#32),
    StableHlo.binary main_v0 main_cst main_v1 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.unary main_v1 main_v2 (broadcastInDim S4096x1 ![0] bcast_S4096_S4096x1_0 : (⟨S4096, .f32⟩ : BufTy).Contents (Elt F) → (⟨S4096x1, .f32⟩ : BufTy).Contents (Elt F)),
    StableHlo.unary main_v1 main_v3 (broadcastInDim S1x4096 ![1] bcast_S4096_S1x4096_1 : (⟨S4096, .f32⟩ : BufTy).Contents (Elt F) → (⟨S1x4096, .f32⟩ : BufTy).Contents (Elt F)),
    StableHlo.unary main_v2 main_v4 (broadcastInDim S4096x4096 ![0, 1] bcast_S4096x1_S4096x4096_0_1 : (⟨S4096x1, .f32⟩ : BufTy).Contents (Elt F) → (⟨S4096x4096, .f32⟩ : BufTy).Contents (Elt F)),
    StableHlo.unary main_v3 main_v5 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v4 main_v5 main_v6 (addf : (⟨S4096x4096, .f32⟩ : BufTy).Contents (Elt F) → (⟨S4096x4096, .f32⟩ : BufTy).Contents (Elt F) → (⟨S4096x4096, .f32⟩ : BufTy).Contents (Elt F)),
    StableHlo.unary main_arg0 main_v7 ((transpose S64x4096 [1, 0] · transposes_S4096x64_S64x4096_1_0) : (⟨S4096x64, .f32⟩ : BufTy).Contents (Elt F) → (⟨S64x4096, .f32⟩ : BufTy).Contents (Elt F)),
    StableHlo.binary main_arg0 main_v7 main_v8 ((fun l r => Host.dotGeneral dot_S4096x64_S64x4096_S4096x4096_1_0_0_1_n_n none l r) : (⟨S4096x64, .f32⟩ : BufTy).Contents (Elt F) → (⟨S64x4096, .f32⟩ : BufTy).Contents (Elt F) → (⟨S4096x4096, .f32⟩ : BufTy).Contents (Elt F)),
    StableHlo.nullary main_cst_0 (constant S_ .f32 0x40000000#32),
    StableHlo.unary main_cst_0 main_v9 (broadcastInDim S4096x4096 ![] bcast_S_S4096x4096 : (⟨S_, .f32⟩ : BufTy).Contents (Elt F) → (⟨S4096x4096, .f32⟩ : BufTy).Contents (Elt F)),
    StableHlo.binary main_v9 main_v8 main_v10 (mulf : (⟨S4096x4096, .f32⟩ : BufTy).Contents (Elt F) → (⟨S4096x4096, .f32⟩ : BufTy).Contents (Elt F) → (⟨S4096x4096, .f32⟩ : BufTy).Contents (Elt F)),
    StableHlo.binary main_v6 main_v10 main_v11 (subf : (⟨S4096x4096, .f32⟩ : BufTy).Contents (Elt F) → (⟨S4096x4096, .f32⟩ : BufTy).Contents (Elt F) → (⟨S4096x4096, .f32⟩ : BufTy).Contents (Elt F)),
    StableHlo.nullary main_cst_1 (constant S_ .f32 0x00000000#32),
    StableHlo.unary main_cst_1 main_v12 (broadcastInDim S4096x4096 ![] bcast_S_S4096x4096 : (⟨S_, .f32⟩ : BufTy).Contents (Elt F) → (⟨S4096x4096, .f32⟩ : BufTy).Contents (Elt F)),
    StableHlo.binary main_v11 main_v12 main_v13 (maximumf : (⟨S4096x4096, .f32⟩ : BufTy).Contents (Elt F) → (⟨S4096x4096, .f32⟩ : BufTy).Contents (Elt F) → (⟨S4096x4096, .f32⟩ : BufTy).Contents (Elt F)),
    StableHlo.unary main_arg1 main_v14 (broadcastInDim S4096x1 ![0] bcast_S4096_S4096x1_0 : (⟨S4096, .i32⟩ : BufTy).Contents (Elt F) → (⟨S4096x1, .i32⟩ : BufTy).Contents (Elt F)),
    StableHlo.unary main_arg1 main_v15 (broadcastInDim S1x4096 ![1] bcast_S4096_S1x4096_1 : (⟨S4096, .i32⟩ : BufTy).Contents (Elt F) → (⟨S1x4096, .i32⟩ : BufTy).Contents (Elt F)),
    StableHlo.unary main_v14 main_v16 (broadcastInDim S4096x4096 ![0, 1] bcast_S4096x1_S4096x4096_0_1 : (⟨S4096x1, .i32⟩ : BufTy).Contents (Elt F) → (⟨S4096x4096, .i32⟩ : BufTy).Contents (Elt F)),
    StableHlo.unary main_v15 main_v17 (broadcastInDim S4096x4096 ![0, 1] bcast_S1x4096_S4096x4096_0_1 : (⟨S1x4096, .i32⟩ : BufTy).Contents (Elt F) → (⟨S4096x4096, .i32⟩ : BufTy).Contents (Elt F)),
    StableHlo.binary main_v16 main_v17 main_v18 (cmpi .eq : (⟨S4096x4096, .i32⟩ : BufTy).Contents (Elt F) → (⟨S4096x4096, .i32⟩ : BufTy).Contents (Elt F) → (⟨S4096x4096, .i1⟩ : BufTy).Contents (Elt F)),
    StableHlo.nullary main_v19 (iotaInDim S4096x4096 32 0),
    StableHlo.nullary main_v20 (iotaInDim S4096x4096 32 1),
    StableHlo.nullary main_c (constantI S_ 32 0#32),
    StableHlo.unary main_c main_v21 (broadcastInDim S4096x4096 ![] bcast_S_S4096x4096 : (⟨S_, .i32⟩ : BufTy).Contents (Elt F) → (⟨S4096x4096, .i32⟩ : BufTy).Contents (Elt F)),
    StableHlo.binary main_v19 main_v21 main_v22 (addi : (⟨S4096x4096, .i32⟩ : BufTy).Contents (Elt F) → (⟨S4096x4096, .i32⟩ : BufTy).Contents (Elt F) → (⟨S4096x4096, .i32⟩ : BufTy).Contents (Elt F)),
    StableHlo.binary main_v22 main_v20 main_v23 (cmpi .eq : (⟨S4096x4096, .i32⟩ : BufTy).Contents (Elt F) → (⟨S4096x4096, .i32⟩ : BufTy).Contents (Elt F) → (⟨S4096x4096, .i1⟩ : BufTy).Contents (Elt F)),
    StableHlo.unary main_v23 main_v24 (noti : (⟨S4096x4096, .i1⟩ : BufTy).Contents (Elt F) → (⟨S4096x4096, .i1⟩ : BufTy).Contents (Elt F)),
    StableHlo.binary main_v18 main_v24 main_v25 (andi : (⟨S4096x4096, .i1⟩ : BufTy).Contents (Elt F) → (⟨S4096x4096, .i1⟩ : BufTy).Contents (Elt F) → (⟨S4096x4096, .i1⟩ : BufTy).Contents (Elt F)),
    StableHlo.unary main_v18 main_v26 (noti : (⟨S4096x4096, .i1⟩ : BufTy).Contents (Elt F) → (⟨S4096x4096, .i1⟩ : BufTy).Contents (Elt F)) ]

/-- Operations of the reference: the two masked extremes' positions. -/
abbrev opsB : List (HloOp τ sig (Elt F)) :=
  [ StableHlo.nullary main_cst_2 (constant S_ .f32 0xFF800000#32),
    StableHlo.TRef.unary (.of main_cst_2) main_call0.v0 id,
    StableHlo.TRef.unary main_call0.v0 main_call0.v1 (broadcastInDim S4096x4096 ![] bcast_S_S4096x4096),
    StableHlo.TRef.ternary (.of main_v25) (.of main_v13) main_call0.v1 main_call0.v2 select,
    StableHlo.TRef.nullary main_call1.v0 (iotaInDim S4096x4096 32 1),
    StableHlo.TRef.nullary main_call1.cst (constant S_ .f32 0xFF800000#32),
    StableHlo.TRef.nullary main_call1.c (constantI S_ 32 0#32),
    StableHlo.TRef.quaternary (.of main_v27) main_call1.v0 main_call1.cst main_call1.c main_call1.v1_0 (fun x y u v j => (Host.argReduce reducer_argmax_f32_i32 x y u v reducesTo_S4096x4096_S4096_d1 h_S_ j).1),
    StableHlo.TRef.quaternary (.of main_v27) main_call1.v0 main_call1.cst main_call1.c main_call1.v1_1 (fun x y u v j => (Host.argReduce reducer_argmax_f32_i32 x y u v reducesTo_S4096x4096_S4096_d1 h_S_ j).2),
    StableHlo.nullary main_cst_3 (constant S_ .f32 0x7F800000#32),
    StableHlo.TRef.unary (.of main_cst_3) main_call2.v0 id,
    StableHlo.TRef.unary main_call2.v0 main_call2.v1 (broadcastInDim S4096x4096 ![] bcast_S_S4096x4096),
    StableHlo.TRef.ternary (.of main_v26) (.of main_v13) main_call2.v1 main_call2.v2 select,
    StableHlo.TRef.nullary main_call3.v0 (iotaInDim S4096x4096 32 1),
    StableHlo.TRef.nullary main_call3.cst (constant S_ .f32 0x7F800000#32),
    StableHlo.TRef.nullary main_call3.c (constantI S_ 32 0#32),
    StableHlo.TRef.quaternary (.of main_v29) main_call3.v0 main_call3.cst main_call3.c main_call3.v1_0 (fun x y u v j => (Host.argReduce reducer_argmin_f32_i32 x y u v reducesTo_S4096x4096_S4096_d1 h_S_ j).1),
    StableHlo.TRef.quaternary (.of main_v29) main_call3.v0 main_call3.cst main_call3.c main_call3.v1_1 (fun x y u v j => (Host.argReduce reducer_argmin_f32_i32 x y u v reducesTo_S4096x4096_S4096_d1 h_S_ j).2) ]

/-- Operations of the reference: the farthest positive's distance. -/
abbrev opsC : List (HloOp τ sig (Elt F)) :=
  [ StableHlo.unary main_v28 main_v31 (broadcastInDim S4096x1 ![0] bcast_S4096_S4096x1_0 : (⟨S4096, .i32⟩ : BufTy).Contents (Elt F) → (⟨S4096x1, .i32⟩ : BufTy).Contents (Elt F)),
    StableHlo.TRef.nullary main_call4.c (constantI S_ 32 0#32),
    StableHlo.TRef.unary main_call4.c main_call4.v0 (broadcastInDim S4096x1 ![] bcast_S_S4096x1),
    StableHlo.TRef.binary (.of main_v31) main_call4.v0 main_call4.v1 (cmpi .slt),
    StableHlo.TRef.nullary main_call4.c_0 (constantI S_ 32 4096#32),
    StableHlo.TRef.unary main_call4.c_0 main_call4.v2 (broadcastInDim S4096x1 ![] bcast_S_S4096x1),
    StableHlo.TRef.binary (.of main_v31) main_call4.v2 main_call4.v3 addi,
    StableHlo.TRef.ternary main_call4.v1 main_call4.v3 (.of main_v31) main_call4.v4 select,
    StableHlo.TRef.reshape main_call4.v4 main_call4.v5 (rfl : (.i32 : EltTy) = .i32) shapeCasts_S4096x1_S4096x1x1,
    StableHlo.TRef.nullary main_call4.c_1 (constantI S1 32 4095#32),
    StableHlo.TRef.nullary main_call4.c_2 (constantI S_ 32 0#32),
    StableHlo.TRef.unary main_call4.c_2 main_call4.v6 (broadcastInDim S4096x1x1 ![] bcast_S_S4096x1x1),
    StableHlo.TRef.binary main_call4.v5 main_call4.v6 main_call4.v7 (cmpi .sge),
    StableHlo.TRef.unary main_call4.c_1 main_call4.v8 (broadcastInDim S1x1x1 ![2] bcast_S1_S1x1x1_2),
    StableHlo.TRef.unary main_call4.v8 main_call4.v9 (broadcastInDim S4096x1x1 ![0, 1, 2] bcast_S1x1x1_S4096x1x1_0_1_2),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S4096x1x1_S4096x1_d2 h_S_),
    StableHlo.TRef.binary (.of main_v13) main_call4.v5 main_call4.v13 (fun x i => Host.gather gather_S4096x4096_S4096x1x1_S4096x1_n_1_0_0_1_2_11 x i),
    StableHlo.TRef.nullary main_call4.cst (constant S_ .f32 0x7FC00000#32),
    StableHlo.TRef.unary main_call4.cst main_call4.v14 (broadcastInDim S4096x1 ![] bcast_S_S4096x1),
    StableHlo.TRef.ternary main_call4.v12 main_call4.v13 main_call4.v14 main_call4.v15 select,
    StableHlo.reshape main_v32 main_v33 (rfl : (.f32 : EltTy) = .f32) shapeCasts_S4096x1_S4096 ]

/-- Operations of the reference: the nearest negative's distance. -/
abbrev opsD : List (HloOp τ sig (Elt F)) :=
  [ StableHlo.unary main_v30 main_v34 (broadcastInDim S4096x1 ![0] bcast_S4096_S4096x1_0 : (⟨S4096, .i32⟩ : BufTy).Contents (Elt F) → (⟨S4096x1, .i32⟩ : BufTy).Contents (Elt F)),
    StableHlo.TRef.nullary main_call5.c (constantI S_ 32 0#32),
    StableHlo.TRef.unary main_call5.c main_call5.v0 (broadcastInDim S4096x1 ![] bcast_S_S4096x1),
    StableHlo.TRef.binary (.of main_v34) main_call5.v0 main_call5.v1 (cmpi .slt),
    StableHlo.TRef.nullary main_call5.c_0 (constantI S_ 32 4096#32),
    StableHlo.TRef.unary main_call5.c_0 main_call5.v2 (broadcastInDim S4096x1 ![] bcast_S_S4096x1),
    StableHlo.TRef.binary (.of main_v34) main_call5.v2 main_call5.v3 addi,
    StableHlo.TRef.ternary main_call5.v1 main_call5.v3 (.of main_v34) main_call5.v4 select,
    StableHlo.TRef.reshape main_call5.v4 main_call5.v5 (rfl : (.i32 : EltTy) = .i32) shapeCasts_S4096x1_S4096x1x1,
    StableHlo.TRef.nullary main_call5.c_1 (constantI S1 32 4095#32),
    StableHlo.TRef.nullary main_call5.c_2 (constantI S_ 32 0#32),
    StableHlo.TRef.unary main_call5.c_2 main_call5.v6 (broadcastInDim S4096x1x1 ![] bcast_S_S4096x1x1),
    StableHlo.TRef.binary main_call5.v5 main_call5.v6 main_call5.v7 (cmpi .sge),
    StableHlo.TRef.unary main_call5.c_1 main_call5.v8 (broadcastInDim S1x1x1 ![2] bcast_S1_S1x1x1_2),
    StableHlo.TRef.unary main_call5.v8 main_call5.v9 (broadcastInDim S4096x1x1 ![0, 1, 2] bcast_S1x1x1_S4096x1x1_0_1_2),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S4096x1x1_S4096x1_d2 h_S_),
    StableHlo.TRef.binary (.of main_v13) main_call5.v5 main_call5.v13 (fun x i => Host.gather gather_S4096x4096_S4096x1x1_S4096x1_n_1_0_0_1_2_11 x i),
    StableHlo.TRef.nullary main_call5.cst (constant S_ .f32 0x7FC00000#32),
    StableHlo.TRef.unary main_call5.cst main_call5.v14 (broadcastInDim S4096x1 ![] bcast_S_S4096x1),
    StableHlo.TRef.ternary main_call5.v12 main_call5.v13 main_call5.v14 main_call5.v15 select,
    StableHlo.reshape main_v35 main_v36 (rfl : (.f32 : EltTy) = .f32) shapeCasts_S4096x1_S4096 ]

/-- Operations of the reference: the loss, the count and the mean. -/
abbrev opsE : List (HloOp τ sig (Elt F)) :=
  [ StableHlo.binary main_v33 main_v36 main_v37 (subf : (⟨S4096, .f32⟩ : BufTy).Contents (Elt F) → (⟨S4096, .f32⟩ : BufTy).Contents (Elt F) → (⟨S4096, .f32⟩ : BufTy).Contents (Elt F)),
    StableHlo.nullary main_cst_4 (constant S_ .f32 0x3F800000#32),
    StableHlo.unary main_cst_4 main_v38 (broadcastInDim S4096 ![] bcast_S_S4096 : (⟨S_, .f32⟩ : BufTy).Contents (Elt F) → (⟨S4096, .f32⟩ : BufTy).Contents (Elt F)),
    StableHlo.binary main_v37 main_v38 main_v39 (addf : (⟨S4096, .f32⟩ : BufTy).Contents (Elt F) → (⟨S4096, .f32⟩ : BufTy).Contents (Elt F) → (⟨S4096, .f32⟩ : BufTy).Contents (Elt F)),
    StableHlo.TRef.nullary main_call6.cst (constant S_ .f32 0x00000000#32),
    StableHlo.TRef.unary main_call6.cst main_call6.v0 (broadcastInDim S4096 ![] bcast_S_S4096),
    StableHlo.TRef.binary (.of main_v39) main_call6.v0 main_call6.v1 maximumf,
    StableHlo.nullary main_c_5 (constantI S_ 1 0#1),
    StableHlo.binary main_v25 main_c_5 main_v41 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)),
    StableHlo.nullary main_c_6 (constantI S_ 1 0#1),
    StableHlo.binary main_v26 main_c_6 main_v42 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)),
    StableHlo.binary main_v41 main_v42 main_v43 (andi : (⟨S4096, .i1⟩ : BufTy).Contents (Elt F) → (⟨S4096, .i1⟩ : BufTy).Contents (Elt F) → (⟨S4096, .i1⟩ : BufTy).Contents (Elt F)),
    StableHlo.unary main_v43 main_v44 ((extui 32 · natLt_1_32) : (⟨S4096, .i1⟩ : BufTy).Contents (Elt F) → (⟨S4096, .i32⟩ : BufTy).Contents (Elt F)),
    StableHlo.nullary main_c_7 (constantI S_ 32 0#32),
    StableHlo.binary main_v44 main_c_7 main_v45 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    StableHlo.unary main_v43 main_v46 (uitofp .f32 : (⟨S4096, .i1⟩ : BufTy).Contents (Elt F) → (⟨S4096, .f32⟩ : BufTy).Contents (Elt F)),
    StableHlo.binary main_v40 main_v46 main_v47 (mulf : (⟨S4096, .f32⟩ : BufTy).Contents (Elt F) → (⟨S4096, .f32⟩ : BufTy).Contents (Elt F) → (⟨S4096, .f32⟩ : BufTy).Contents (Elt F)),
    StableHlo.nullary main_cst_8 (constant S_ .f32 0x00000000#32),
    StableHlo.binary main_v47 main_cst_8 main_v48 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.unary main_v45 main_v49 (sitofp .f32 : (⟨S_, .i32⟩ : BufTy).Contents (Elt F) → (⟨S_, .f32⟩ : BufTy).Contents (Elt F)),
    StableHlo.nullary main_cst_9 (constant S_ .f32 0x3F800000#32),
    StableHlo.binary main_v49 main_cst_9 main_v50 (maximumf : (⟨S_, .f32⟩ : BufTy).Contents (Elt F) → (⟨S_, .f32⟩ : BufTy).Contents (Elt F) → (⟨S_, .f32⟩ : BufTy).Contents (Elt F)),
    StableHlo.binary main_v48 main_v50 main_v51 (Host.divf : (⟨S_, .f32⟩ : BufTy).Contents (Elt F) → (⟨S_, .f32⟩ : BufTy).Contents (Elt F) → (⟨S_, .f32⟩ : BufTy).Contents (Elt F)) ]

/-- All the operations, in order. -/
abbrev ops : List (HloOp τ sig (Elt F)) := opsA ++ (opsB ++ (opsC ++ (opsD ++ opsE)))

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-! ## The values -/

/-- The pairwise squared distances, clamped at zero. -/
def rDist (x : Vec F S4096x64 .f32) : Vec F S4096x4096 .f32 :=
  let s : Vec F S4096 .f32 := Host.reduceAdd (mulf x x) (constant S_ .f32 0x00000000#32) reducesTo_S4096x64_S4096_d1 h_S_
  maximumf (subf (addf (broadcastInDim S4096x4096 ![0, 1] bcast_S4096x1_S4096x4096_0_1 (broadcastInDim S4096x1 ![0] bcast_S4096_S4096x1_0 s))
      (broadcastInDim S4096x4096 ![0, 1] bcast_S1x4096_S4096x4096_0_1 (broadcastInDim S1x4096 ![1] bcast_S4096_S1x4096_1 s)))
    (mulf (broadcastInDim S4096x4096 ![] bcast_S_S4096x4096 (constant S_ .f32 0x40000000#32))
      (Host.dotGeneral dot_S4096x64_S64x4096_S4096x4096_1_0_0_1_n_n none x (transpose S64x4096 [1, 0] x transposes_S4096x64_S64x4096_1_0))))
    (broadcastInDim S4096x4096 ![] bcast_S_S4096x4096 (constant S_ .f32 0x00000000#32))

/-- Which pairs have the same label. -/
def rSame (t : Vec F S4096 .i32) : Vec F S4096x4096 .i1 :=
  cmpi .eq (broadcastInDim S4096x4096 ![0, 1] bcast_S4096x1_S4096x4096_0_1 (broadcastInDim S4096x1 ![0] bcast_S4096_S4096x1_0 t))
    (broadcastInDim S4096x4096 ![0, 1] bcast_S1x4096_S4096x4096_0_1 (broadcastInDim S1x4096 ![1] bcast_S4096_S1x4096_1 t))

/-- Which pairs are positives: the same label, and not the row itself. -/
def rPos (t : Vec F S4096 .i32) : Vec F S4096x4096 .i1 :=
  andi (rSame t) (noti (cmpi .eq (addi (iotaInDim S4096x4096 32 0) (broadcastInDim S4096x4096 ![] bcast_S_S4096x4096 (constantI S_ 32 0#32)))
    (iotaInDim S4096x4096 32 1)))

/-- Which pairs are negatives. -/
def rNeg (t : Vec F S4096 .i32) : Vec F S4096x4096 .i1 := noti (rSame t)

/-- The distances where the mask holds, a constant elsewhere. -/
def rWhere (p : Vec F S4096x4096 .i1) (d : Vec F S4096x4096 .f32) (b : BitVec 32) : Vec F S4096x4096 .f32 :=
  select p d (broadcastInDim S4096x4096 ![] bcast_S_S4096x4096 (constant S_ .f32 b))

/-- The position of each row's largest entry. -/
def rArgmax (y : Vec F S4096x4096 .f32) : Vec F S4096 .i32 := fun j =>
  (Host.argReduce reducer_argmax_f32_i32 y (iotaInDim S4096x4096 32 1) (constant S_ .f32 0xFF800000#32) (constantI S_ 32 0#32) reducesTo_S4096x4096_S4096_d1 h_S_ j).2

/-- The position of each row's smallest entry. -/
def rArgmin (y : Vec F S4096x4096 .f32) : Vec F S4096 .i32 := fun j =>
  (Host.argReduce reducer_argmin_f32_i32 y (iotaInDim S4096x4096 32 1) (constant S_ .f32 0x7F800000#32) (constantI S_ 32 0#32) reducesTo_S4096x4096_S4096_d1 h_S_ j).2

/-- A position below zero counted from the end. -/
def rWrap (k : Vec F S4096 .i32) : Vec F S4096x1x1 .i32 :=
  let k1 : Vec F S4096x1 .i32 := broadcastInDim S4096x1 ![0] bcast_S4096_S4096x1_0 k
  shapeCast S4096x1x1 (select (cmpi .slt k1 (broadcastInDim S4096x1 ![] bcast_S_S4096x1 (constantI S_ 32 0#32)))
    (addi k1 (broadcastInDim S4096x1 ![] bcast_S_S4096x1 (constantI S_ 32 4096#32))) k1) shapeCasts_S4096x1_S4096x1x1

/-- Each row's entry at the given position. -/
def rTake (d : Vec F S4096x4096 .f32) (k : Vec F S4096 .i32) : Vec F S4096 .f32 :=
  shapeCast S4096 (select
    (Host.reduce IntOp.andi
      (andi (cmpi .sge (rWrap (F := F) k) (broadcastInDim S4096x1x1 ![] bcast_S_S4096x1x1 (constantI S_ 32 0#32)))
        (cmpi .sle (rWrap (F := F) k) (broadcastInDim S4096x1x1 ![0, 1, 2] bcast_S1x1x1_S4096x1x1_0_1_2
          (broadcastInDim S1x1x1 ![2] bcast_S1_S1x1x1_2 (constantI S1 32 4095#32)))))
      (constantI S_ 1 1#1) reducesTo_S4096x1x1_S4096x1_d2 h_S_)
    (Host.gather gather_S4096x4096_S4096x1x1_S4096x1_n_1_0_0_1_2_11 d (rWrap (F := F) k))
    (broadcastInDim S4096x1 ![] bcast_S_S4096x1 (constant S_ .f32 0x7FC00000#32))) shapeCasts_S4096x1_S4096

/-- Which rows have a positive and a negative. -/
def rValid (p n : Vec F S4096x4096 .i1) : Vec F S4096 .i1 :=
  andi (Host.reduce IntOp.ori p (constantI S_ 1 0#1) reducesTo_S4096x4096_S4096_d1 h_S_)
    (Host.reduce IntOp.ori n (constantI S_ 1 0#1) reducesTo_S4096x4096_S4096_d1 h_S_)

/-- The number of those rows. -/
def rCount (p n : Vec F S4096x4096 .i1) : Vec F S_ .i32 :=
  Host.reduce IntOp.addi (extui 32 (rValid (F := F) p n) natLt_1_32) (constantI S_ 32 0#32) reducesTo_S4096_S_d0 h_S_

/-- The mean of those rows' losses. -/
def rMean (p n : Vec F S4096x4096 .i1) (dp dn : Vec F S4096 .f32) : Vec F S_ .f32 :=
  Host.divf
    (Host.reduceAdd
      (mulf (maximumf (addf (subf dp dn) (broadcastInDim S4096 ![] bcast_S_S4096 (constant S_ .f32 0x3F800000#32)))
          (broadcastInDim S4096 ![] bcast_S_S4096 (constant S_ .f32 0x00000000#32)))
        (uitofp .f32 (rValid (F := F) p n)))
      (constant S_ .f32 0x00000000#32) reducesTo_S4096_S_d0 h_S_)
    (maximumf (sitofp .f32 (rCount (F := F) p n)) (constant S_ .f32 0x3F800000#32))

/-! ## Reading the lines -/

variable (V : Valuation τ sig (Elt F))

/-- That line leaves the distances. -/
theorem A_dist : after opsA V (Proc.devRef .tc main_v13) = rDist (V (Proc.devRef .tc main_arg0)) := by after_reads_simp; rfl
/-- That line leaves the positives. -/
theorem A_pos : after opsA V (Proc.devRef .tc main_v25) = rPos (F := F) (V (Proc.devRef .tc main_arg1)) := by after_reads_simp; rfl
/-- That line leaves the negatives. -/
theorem A_neg : after opsA V (Proc.devRef .tc main_v26) = rNeg (F := F) (V (Proc.devRef .tc main_arg1)) := by after_reads_simp; rfl
/-- That line leaves the farthest positive's position. -/
theorem B_far : after opsB V (Proc.devRef .tc main_v28)
    = rArgmax (rWhere (V (Proc.devRef .tc main_v25)) (V (Proc.devRef .tc main_v13)) 0xFF800000#32) := by after_reads_simp; rfl
/-- That line leaves the nearest negative's position. -/
theorem B_near : after opsB V (Proc.devRef .tc main_v30)
    = rArgmin (rWhere (V (Proc.devRef .tc main_v26)) (V (Proc.devRef .tc main_v13)) 0x7F800000#32) := by after_reads_simp; rfl
/-- That line leaves the farthest positive's distance. -/
theorem C_take : after opsC V (Proc.devRef .tc main_v33) = rTake (V (Proc.devRef .tc main_v13)) (V (Proc.devRef .tc main_v28)) := by after_reads_simp; rfl
/-- That line leaves the nearest negative's distance. -/
theorem D_take : after opsD V (Proc.devRef .tc main_v36) = rTake (V (Proc.devRef .tc main_v13)) (V (Proc.devRef .tc main_v30)) := by after_reads_simp; rfl
/-- That line leaves the count. -/
theorem E_count : after opsE V (Proc.devRef .tc main_v45) = rCount (F := F) (V (Proc.devRef .tc main_v25)) (V (Proc.devRef .tc main_v26)) := by
  after_reads_simp; rfl
/-- That line leaves the mean. -/
theorem E_mean : after opsE V (Proc.devRef .tc main_v51) = rMean (V (Proc.devRef .tc main_v25)) (V (Proc.devRef .tc main_v26))
    (V (Proc.devRef .tc main_v33)) (V (Proc.devRef .tc main_v36)) := by
  after_reads_simp; rfl

/-- Every operation of that line touches the device's own buffers only. -/
theorem opsA_sub : (opsA : List (HloOp τ sig (Elt F))).Forall fun op => op.bufs ⊆ tcRefs τ sig :=
  ⟨binary_bufs_sub .., nullary_bufs_sub .., binary_bufs_sub .., unary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., unary_bufs_sub ..,
    unary_bufs_sub .., unary_bufs_sub .., unary_bufs_sub .., binary_bufs_sub .., nullary_bufs_sub .., nullary_bufs_sub ..,
    nullary_bufs_sub .., unary_bufs_sub .., binary_bufs_sub .., binary_bufs_sub .., unary_bufs_sub .., binary_bufs_sub ..,
    unary_bufs_sub ..⟩
/-- Every operation of that line determines its result. -/
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl⟩
/-- Every operation of that line touches the device's own buffers only. -/
theorem opsB_sub : (opsB : List (HloOp τ sig (Elt F))).Forall fun op => op.bufs ⊆ tcRefs τ sig :=
  ⟨nullary_bufs_sub .., unary_bufs_sub .., unary_bufs_sub .., ternary_bufs_sub .., nullary_bufs_sub .., nullary_bufs_sub ..,
    nullary_bufs_sub .., quaternary_bufs_sub .., quaternary_bufs_sub .., nullary_bufs_sub .., unary_bufs_sub .., unary_bufs_sub ..,
    ternary_bufs_sub .., nullary_bufs_sub .., nullary_bufs_sub .., nullary_bufs_sub .., quaternary_bufs_sub ..,
    quaternary_bufs_sub ..⟩
/-- Every operation of that line determines its result. -/
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl⟩
/-- Every operation of that line touches the device's own buffers only. -/
theorem opsC_sub : (opsC : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., reshape_bufs_sub ..⟩
/-- Every operation of that line determines its result. -/
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
/-- Every operation of that line touches the device's own buffers only. -/
theorem opsD_sub : (opsD : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., reshape_bufs_sub ..⟩
/-- Every operation of that line determines its result. -/
theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
/-- Every operation of that line touches the device's own buffers only. -/
theorem opsE_sub : (opsE : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., nullary_bufs_sub .., binary_bufs_sub .., nullary_bufs_sub .., binary_bufs_sub .., binary_bufs_sub ..,
    unary_bufs_sub .., nullary_bufs_sub .., binary_bufs_sub .., unary_bufs_sub .., binary_bufs_sub .., nullary_bufs_sub ..,
    binary_bufs_sub .., unary_bufs_sub .., nullary_bufs_sub .., binary_bufs_sub .., binary_bufs_sub ..⟩
/-- Every operation of that line determines its result. -/
theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- Every operation touches the device's own buffers only. -/
theorem ops_sub : (ops : List (HloOp τ sig (Elt F))).Forall fun op => op.bufs ⊆ tcRefs τ sig := by
  refine List.forall_iff_forall_mem.mpr fun op h => ?_
  simp only [ops, List.mem_append] at h
  rcases h with h | h | h | h | h
  · exact List.forall_iff_forall_mem.mp opsA_sub op h
  · exact List.forall_iff_forall_mem.mp opsB_sub op h
  · exact List.forall_iff_forall_mem.mp opsC_sub op h
  · exact List.forall_iff_forall_mem.mp opsD_sub op h
  · exact List.forall_iff_forall_mem.mp opsE_sub op h
/-- Every operation determines its result. -/
theorem ops_fresh : (ops : List (HloOp τ sig (Elt F))).Forall fun op => op.fresh = ∅ := by
  refine List.forall_iff_forall_mem.mpr fun op h => ?_
  simp only [ops, List.mem_append] at h
  rcases h with h | h | h | h | h
  · exact List.forall_iff_forall_mem.mp opsA_fresh op h
  · exact List.forall_iff_forall_mem.mp opsB_fresh op h
  · exact List.forall_iff_forall_mem.mp opsC_fresh op h
  · exact List.forall_iff_forall_mem.mp opsD_fresh op h
  · exact List.forall_iff_forall_mem.mp opsE_fresh op h

/-- One line after another. -/
theorem after_two (l₁ l₂ : List (HloOp τ sig (Elt F))) : ∀ V : Valuation τ sig (Elt F), after (l₁ ++ l₂) V = after l₂ (after l₁ V) := by
  induction l₁ with
  | nil => exact fun _ => rfl
  | cons op l ih => exact fun V => ih _

/-- The reference's count, of the labels. -/
def refCount (t : Vec F S4096 .i32) : Vec F S_ .i32 := rCount (F := F) (rPos (F := F) t) (rNeg (F := F) t)

/-- The reference's mean, of the embeddings and the labels. -/
def refMean (x : Vec F S4096x64 .f32) (t : Vec F S4096 .i32) : Vec F S_ .f32 :=
  rMean (rPos (F := F) t) (rNeg (F := F) t)
    (rTake (rDist x) (rArgmax (rWhere (rPos (F := F) t) (rDist x) 0xFF800000#32)))
    (rTake (rDist x) (rArgmin (rWhere (rNeg (F := F) t) (rDist x) 0x7F800000#32)))

/-- What no line but its writer's changes. -/
theorem B_keep : after opsB V (Proc.devRef .tc main_v13) = V (Proc.devRef .tc main_v13)
    ∧ after opsB V (Proc.devRef .tc main_v25) = V (Proc.devRef .tc main_v25)
    ∧ after opsB V (Proc.devRef .tc main_v26) = V (Proc.devRef .tc main_v26) := ⟨by after_reads_simp, by after_reads_simp, by after_reads_simp⟩
@[inherit_doc B_keep]
theorem C_keep : after opsC V (Proc.devRef .tc main_v13) = V (Proc.devRef .tc main_v13)
    ∧ after opsC V (Proc.devRef .tc main_v25) = V (Proc.devRef .tc main_v25)
    ∧ after opsC V (Proc.devRef .tc main_v26) = V (Proc.devRef .tc main_v26)
    ∧ after opsC V (Proc.devRef .tc main_v30) = V (Proc.devRef .tc main_v30) := ⟨by after_reads_simp, by after_reads_simp, by after_reads_simp, by after_reads_simp⟩
@[inherit_doc B_keep]
theorem D_keep : after opsD V (Proc.devRef .tc main_v33) = V (Proc.devRef .tc main_v33)
    ∧ after opsD V (Proc.devRef .tc main_v25) = V (Proc.devRef .tc main_v25)
    ∧ after opsD V (Proc.devRef .tc main_v26) = V (Proc.devRef .tc main_v26) := ⟨by after_reads_simp, by after_reads_simp, by after_reads_simp⟩

/-- The count the operations leave. -/
theorem ops_count : after ops V (Proc.devRef .tc main_v45) = refCount (F := F) (V (Proc.devRef .tc main_arg1)) := by
  unfold ops
  rw [after_two, after_two, after_two, after_two, E_count, (D_keep _).2.1, (D_keep _).2.2, (C_keep _).2.1, (C_keep _).2.2.1,
    (B_keep _).2.1, (B_keep _).2.2, A_pos, A_neg]
  rfl

/-- The mean the operations leave. -/
theorem ops_mean : after ops V (Proc.devRef .tc main_v51) = refMean (V (Proc.devRef .tc main_arg0)) (V (Proc.devRef .tc main_arg1)) := by
  unfold ops
  rw [after_two, after_two, after_two, after_two, E_mean, (D_keep _).1, D_take, (D_keep _).2.1, (D_keep _).2.2, (C_keep _).2.1, (C_keep _).2.2.1,
    C_take, (C_keep _).1, (C_keep _).2.2.2, (B_keep _).2.1, (B_keep _).2.2, (B_keep _).1, B_far, B_near, A_pos, A_neg, A_dist]
  rfl

/-- No operation writes an argument. -/
theorem ops_args : after ops V (Proc.devRef .tc main_arg0) = V (Proc.devRef .tc main_arg0)
    ∧ after ops V (Proc.devRef .tc main_arg1) = V (Proc.devRef .tc main_arg1) := by
  unfold ops
  rw [after_two, after_two, after_two, after_two]
  constructor <;> after_reads_simp

/-- The run, read: the mean and the count in the result scalars, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = refMean (m ((c.tc : Thread nD τ).loc main_arg0)) (m ((c.tc : Thread nD τ).loc main_arg1))
      ∧ r.2.mem ((c.tc : Thread nD τ).loc main_v45) = refCount (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v51).trans (ops_mean _), (h c main_v45).trans (ops_count _),
      (h c main_arg0).trans (ops_args _).1, (h c main_arg1).trans (ops_args _).2⟩)
    (run_seq scopedRefs_eq scopedSems_eq defs main (fun _ => ops) main_eq (fun _ => ops_sub) m ρ
      (fun _ => List.forall_iff_forall_mem.mp ops_fresh))

end Cert.ReferenceIdeal.Val
end
-- ==== Proof.RefTake.lean ====
/-
  The idealized reference's two selectors, read at a row: the position of a row's largest (smallest) entry, and the entry
  at a given position.
-/
module

public import proofs.«01_k».proof.Proof.RefRun
public import proofs.«01_k».proof.Proof.Consts
public import Idealize.ShloMosaic.Lib.Pointwise
public import Idealize.ShloMosaic.Lib.WordArith

@[expose] public section

set_option maxRecDepth 16384

noncomputable section

open Idealize.ShloMosaic Idealize.ShloMosaic.Pointwise Cert.Triplet

namespace Cert.ReferenceIdeal.Val
open Cert.ReferenceIdeal Cert.ReferenceIdeal.Gen

/-! ## The extremes' positions -/

/-- A fold that keeps one of two pairs, the larger value in the order `le`, keeps the position of an entry `le`-above all. -/
theorem foldl_arg (le : EReal → EReal → Prop) (rf : ∀ a, le a a) (tr : ∀ a b c, le a b → le b c → le a c)
    (R : EReal × BitVec 32 → EReal × BitVec 32 → EReal × BitVec 32)
    (step : ∀ a b, le a.1 (R a b).1 ∧ le b.1 (R a b).1
      ∧ ((le (R a b).1 a.1 ∧ (R a b).2 = a.2) ∨ (le (R a b).1 b.1 ∧ (R a b).2 = b.2)))
    (d : Fin 4096 → EReal) : ∀ (L : List (EReal × BitVec 32)) (s : EReal × BitVec 32),
      (∃ k : Fin 4096, s.2 = BitVec.ofNat 32 k.val ∧ le s.1 (d k)) →
      (∀ e ∈ L, ∃ k : Fin 4096, e.2 = BitVec.ofNat 32 k.val ∧ le e.1 (d k)) →
      le s.1 (L.foldl R s).1 ∧ (∀ e ∈ L, le e.1 (L.foldl R s).1)
        ∧ ∃ k : Fin 4096, (L.foldl R s).2 = BitVec.ofNat 32 k.val ∧ le (L.foldl R s).1 (d k)
  | [], s, hs, _ => ⟨rf _, fun e he => absurd he List.not_mem_nil, hs⟩
  | e :: L, s, hs, hL => by
    obtain ⟨h1, h2, h3⟩ := step s e
    have hs' : ∃ k : Fin 4096, (R s e).2 = BitVec.ofNat 32 k.val ∧ le (R s e).1 (d k) := by
      rcases h3 with ⟨g, g'⟩ | ⟨g, g'⟩
      · obtain ⟨k, hk, hk'⟩ := hs
        exact ⟨k, g'.trans hk, tr _ _ _ g hk'⟩
      · obtain ⟨k, hk, hk'⟩ := hL e List.mem_cons_self
        exact ⟨k, g'.trans hk, tr _ _ _ g hk'⟩
    obtain ⟨i1, i2, i3⟩ := foldl_arg le rf tr R step d L (R s e) hs' fun e' he' => hL e' (List.mem_cons_of_mem _ he')
    refine ⟨tr _ _ _ h1 i1, fun e' he' => ?_, i3⟩
    rcases List.mem_cons.mp he' with rfl | he'
    · exact tr _ _ _ h2 i1
    · exact i2 e' he'

/-- One step of the arg-max keeps the larger of two entries, with its position. -/
theorem argmax_step (a b : EReal × BitVec 32) :
    a.1 ≤ (reducer_argmax_f32_i32 (F := Ideal) a b).1 ∧ b.1 ≤ (reducer_argmax_f32_i32 (F := Ideal) a b).1
      ∧ (((reducer_argmax_f32_i32 (F := Ideal) a b).1 ≤ a.1 ∧ (reducer_argmax_f32_i32 (F := Ideal) a b).2 = a.2)
        ∨ ((reducer_argmax_f32_i32 (F := Ideal) a b).1 ≤ b.1 ∧ (reducer_argmax_f32_i32 (F := Ideal) a b).2 = b.2)) := by
  obtain ⟨a, p⟩ := a
  obtain ⟨b, q⟩ := b
  simp only [reducer_argmax_f32_i32, Ideal.cmpf_def, Ideal.cmp]
  rcases lt_trichotomy a b with h | rfl | h
  · simp [h, h.le, h.ne, not_lt.mpr h.le, IntOp.ori, IntOp.andi, Scalar.select]
  · refine ⟨?_, ?_, ?_⟩
    · simp [Scalar.select]
    · simp [Scalar.select]
    · simp only [Scalar.select, ite_self, le_refl, true_and]
      split <;> simp
  · simp [h, h.le, h.ne', not_lt.mpr h.le, IntOp.ori, IntOp.andi, Scalar.select]

/-- One step of the arg-min keeps the smaller of two entries, with its position. -/
theorem argmin_step (a b : EReal × BitVec 32) :
    (reducer_argmin_f32_i32 (F := Ideal) a b).1 ≤ a.1 ∧ (reducer_argmin_f32_i32 (F := Ideal) a b).1 ≤ b.1
      ∧ ((a.1 ≤ (reducer_argmin_f32_i32 (F := Ideal) a b).1 ∧ (reducer_argmin_f32_i32 (F := Ideal) a b).2 = a.2)
        ∨ (b.1 ≤ (reducer_argmin_f32_i32 (F := Ideal) a b).1 ∧ (reducer_argmin_f32_i32 (F := Ideal) a b).2 = b.2)) := by
  obtain ⟨a, p⟩ := a
  obtain ⟨b, q⟩ := b
  simp only [reducer_argmin_f32_i32, Ideal.cmpf_def, Ideal.cmp]
  rcases lt_trichotomy a b with h | rfl | h
  · simp [h, h.le, h.ne, not_lt.mpr h.le, IntOp.ori, IntOp.andi, Scalar.select]
  · refine ⟨?_, ?_, ?_⟩
    · simp [Scalar.select]
    · simp [Scalar.select]
    · simp only [Scalar.select, ite_self, le_refl, true_and]
      split <;> simp
  · simp [h, h.le, h.ne', not_lt.mpr h.le, IntOp.ori, IntOp.andi, Scalar.select]

/-- The pairs one row's arg-max or arg-min folds over: the row's entries with their positions. -/
theorem mem_fiber (y : Vec Ideal S4096x4096 .f32) (i : Fin 4096) (e : EReal × BitVec 32) :
    e ∈ Host.argReduceFiber (α := EReal) y (iotaInDim S4096x4096 32 1) reducesTo_S4096x4096_S4096_d1 (ix1 i)
      ↔ ∃ k : Fin 4096, e = (y (ix2 i k), BitVec.ofNat 32 k.val) := by
  unfold Host.argReduceFiber
  rw [List.mem_map]
  constructor
  · rintro ⟨n, hn, rfl⟩
    have hd := of_decide_eq_true (List.mem_filter.mp hn).2
    obtain ⟨k, hk⟩ := (reducesTo_S4096x4096_S4096_d1.fiber_r2_a1 _ _).mp hd
    refine ⟨k, ?_⟩
    rw [← hk]
    rfl
  · rintro ⟨k, rfl⟩
    refine ⟨S4096x4096.rowMajor (ix2 i k), List.mem_filter.mpr ⟨List.mem_finRange _, decide_eq_true ?_⟩, ?_⟩
    · rw [Equiv.symm_apply_apply]
      exact (reducesTo_S4096x4096_S4096_d1.fiber_r2_a1 _ _).mpr ⟨k, rfl⟩
    · rw [Equiv.symm_apply_apply]
      rfl

/-- The same fold, as the selector over one axis folds it: the position kept is that of an entry `le`-above its whole fiber. -/
theorem argReduce_at {s t u : Shape} {axes : List (Fin s.rank)} (le : EReal → EReal → Prop) (rf : ∀ a, le a a)
    (tr : ∀ a b c, le a b → le b c → le a c)
    (R : Ideal .f32 × BitVec 32 → Ideal .f32 × BitVec 32 → Ideal .f32 × BitVec 32)
    (step : ∀ a b, le a.1 (R a b).1 ∧ le b.1 (R a b).1
      ∧ ((le (R a b).1 a.1 ∧ (R a b).2 = a.2) ∨ (le (R a b).1 b.1 ∧ (R a b).2 = b.2)))
    (x : FVec Ideal s .f32) (y : s.Idx → BitVec 32) (ix : u.Idx → Ideal .f32) (iy : u.Idx → BitVec 32)
    (h : s.ReducesTo axes t) (hu : 0 < u.numel) (j : t.Idx) (d : Fin 4096 → EReal)
    (h0 : ∀ a, iy a = 0#32) (hb : ∀ a, le (ix a) (d 0))
    (hf : ∀ e, e ∈ Host.argReduceFiber x y h j ↔ ∃ k : Fin 4096, e = (d k, BitVec.ofNat 32 k.val)) :
    ∃ k : Fin 4096, (Host.argReduce R x y ix iy h hu j).2 = BitVec.ofNat 32 k.val ∧ ∀ m, le (d m) (d k) := by
  rw [Ideal.argReduce_eq_reduce2, Host.reduce2_eq_foldl_fiber]
  obtain ⟨-, h2, k, hk, hk'⟩ := foldl_arg le rf tr R step d (Host.argReduceFiber x y h j)
    (ix (Shape.Idx.first hu), iy (Shape.Idx.first hu)) ⟨0, h0 _, hb _⟩
    (fun e he => by obtain ⟨k, rfl⟩ := (hf e).mp he; exact ⟨k, rfl, rf _⟩)
  exact ⟨k, hk, fun m => tr _ _ _ (h2 _ ((hf _).mpr ⟨m, rfl⟩)) hk'⟩

/-- The arg-max's value, unfolded as a function of the row. -/
theorem rArgmax_eq (y : Vec Ideal S4096x4096 .f32) : rArgmax (F := Ideal) y = fun j =>
    (Host.argReduce reducer_argmax_f32_i32 y (iotaInDim S4096x4096 32 1) (constant (F := Ideal) S_ .f32 0xFF800000#32) (constantI S_ 32 0#32) reducesTo_S4096x4096_S4096_d1 h_S_ j).2 := rfl

/-- The arg-max is the position of an entry above its whole row. -/
theorem rArgmax_at (y : Vec Ideal S4096x4096 .f32) (i : Fin 4096) :
    ∃ k : Fin 4096, rArgmax (F := Ideal) y (ix1 i) = BitVec.ofNat 32 k.val ∧ ∀ j : Fin 4096, y (ix2 i j) ≤ y (ix2 i k) := by
  obtain ⟨k, hk, hm⟩ := argReduce_at (· ≤ ·) (fun _ => le_rfl) (fun _ _ _ => le_trans) reducer_argmax_f32_i32 argmax_step
    y (iotaInDim S4096x4096 32 1) (constant S_ .f32 0xFF800000#32) (constantI S_ 32 0#32) reducesTo_S4096x4096_S4096_d1 h_S_ (ix1 i)
    (fun k => y (ix2 i k)) (fun _ => rfl) (fun _ => le_of_eq_of_le word_bot bot_le) (mem_fiber y i)
  exact ⟨k, (congrFun (rArgmax_eq y) (ix1 i)).trans hk, hm⟩

/-- The arg-min's value, unfolded as a function of the row. -/
theorem rArgmin_eq (y : Vec Ideal S4096x4096 .f32) : rArgmin (F := Ideal) y = fun j =>
    (Host.argReduce reducer_argmin_f32_i32 y (iotaInDim S4096x4096 32 1) (constant (F := Ideal) S_ .f32 0x7F800000#32) (constantI S_ 32 0#32) reducesTo_S4096x4096_S4096_d1 h_S_ j).2 := rfl

/-- The arg-min is the position of an entry below its whole row. -/
theorem rArgmin_at (y : Vec Ideal S4096x4096 .f32) (i : Fin 4096) :
    ∃ k : Fin 4096, rArgmin (F := Ideal) y (ix1 i) = BitVec.ofNat 32 k.val ∧ ∀ j : Fin 4096, y (ix2 i k) ≤ y (ix2 i j) := by
  obtain ⟨k, hk, hm⟩ := argReduce_at (· ≥ ·) (fun _ => le_rfl) (fun _ _ _ h g => le_trans g h) reducer_argmin_f32_i32 argmin_step
    y (iotaInDim S4096x4096 32 1) (constant S_ .f32 0x7F800000#32) (constantI S_ 32 0#32) reducesTo_S4096x4096_S4096_d1 h_S_ (ix1 i)
    (fun k => y (ix2 i k)) (fun _ => rfl) (fun _ => le_of_le_of_eq le_top word_top.symm) (mem_fiber y i)
  exact ⟨k, (congrFun (rArgmin_eq y) (ix1 i)).trans hk, hm⟩

/-! ## The entry at a position -/

/-- The gather reads each row at the row's own start index, clamped into the row. -/
theorem gather_at (d : Vec Ideal S4096x4096 .f32) (w : IVec S4096x1x1 32) (i : Fin 4096) :
    Host.gather gather_S4096x4096_S4096x1x1_S4096x1_n_1_0_0_1_2_11 d w (ix2 i (0 : Fin 1))
      = d (ix2 i ⟨min (w (ix3 i (0 : Fin 1) (0 : Fin 1))).toInt.toNat 4095, by omega⟩) := by
  unfold Host.gather
  congr 1
  funext a
  refine Fin.ext ?_
  show gather_S4096x4096_S4096x1x1_S4096x1_n_1_0_0_1_2_11.start (ix2 i (0 : Fin 1)) w a
    + gather_S4096x4096_S4096x1x1_S4096x1_n_1_0_0_1_2_11.batchCoord (ix2 i (0 : Fin 1)) a
    + gather_S4096x4096_S4096x1x1_S4096x1_n_1_0_0_1_2_11.offCoord (ix2 i (0 : Fin 1)) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    rfl
  | ⟨1, _⟩ =>
    rw [GatherDims.batchCoord_eq_zero _ _ _ (show (⟨1, by decide⟩ : Fin S4096x4096.rank) ∉ gather_S4096x4096_S4096x1x1_S4096x1_n_1_0_0_1_2_11.operandBatchingDims by decide),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin S4096x4096.rank) ∈ gather_S4096x4096_S4096x1x1_S4096x1_n_1_0_0_1_2_11.startIndexMap from List.mem_singleton.mpr rfl)]
    have hsi : gather_S4096x4096_S4096x1x1_S4096x1_n_1_0_0_1_2_11.siIdx (ix2 i (0 : Fin 1))
        ⟨List.idxOf (⟨1, by decide⟩ : Fin S4096x4096.rank) gather_S4096x4096_S4096x1x1_S4096x1_n_1_0_0_1_2_11.startIndexMap,
          List.idxOf_lt_length_iff.2 (List.mem_singleton.mpr rfl)⟩ = ix3 i (0 : Fin 1) (0 : Fin 1) := by
      funext b
      refine Fin.ext ?_
      match b with
      | ⟨0, _⟩ => rfl
      | ⟨1, _⟩ => rfl
      | ⟨2, _⟩ => rfl
    rw [hsi]
    rfl

/-- A position inside the row reads the row's entry there. -/
theorem rTake_at (d : Vec Ideal S4096x4096 .f32) (p : Vec Ideal S4096 .i32) (i k : Fin 4096) (hp : p (ix1 i) = BitVec.ofNat 32 k.val) :
    rTake (F := Ideal) d p (ix1 i) = d (ix2 i k) := by
  have hi : (BitVec.ofNat 32 k.val).toInt = k.val := WordArith.toInt_ofNat_small k.val (by have := k.isLt; omega)
  have hw : rWrap (F := Ideal) p (ix3 i (0 : Fin 1) (0 : Fin 1)) = BitVec.ofNat 32 k.val := by
    pointwise [rWrap]
    rw [hp]
    have : IntOp.cmpi .slt (BitVec.ofNat 32 k.val) 0#32 = 0#1 := by
      show BitVec.ofBool ((BitVec.ofNat 32 k.val).slt 0#32) = 0#1
      rw [BitVec.slt, hi, show (0#32 : BitVec 32).toInt = 0 from rfl, decide_eq_false (by omega)]
      rfl
    rw [this]
    rfl
  have h1 : IntOp.cmpi .sge (BitVec.ofNat 32 k.val) 0#32 = 1#1 := by
    show BitVec.ofBool ((0#32).sle (BitVec.ofNat 32 k.val)) = 1#1
    rw [BitVec.sle, hi]
    simp
  have h2 : IntOp.cmpi .sle (BitVec.ofNat 32 k.val) 4095#32 = 1#1 := by
    show BitVec.ofBool ((BitVec.ofNat 32 k.val).sle 4095#32) = 1#1
    rw [BitVec.sle, hi]
    have : (k.val : ℤ) ≤ 4095 := by have := k.isLt; omega
    simp [this]
  pointwise [rTake]
  rw [show (Finset.univ : Finset (Fin 1)) = {0} from rfl, Finset.fold_singleton, hw, h1, h2, gather_at]
  show d _ = _
  congr 2
  apply Fin.ext
  show min (rWrap (F := Ideal) p (ix3 i (0 : Fin 1) (0 : Fin 1))).toInt.toNat 4095 = k.val
  rw [hw, hi]
  have := k.isLt
  omega

end Cert.ReferenceIdeal.Val
end
-- ==== Proof.RefValue.lean ====
/-
  The idealized reference's two results as formulas over the rows: the rows that have a positive and a negative counted,
  and their losses averaged.
-/
module

public import proofs.«01_k».proof.Proof.RefTake
public import proofs.«01_k».proof.Proof.Math
public import Mathlib.Data.BitVec

@[expose] public section

set_option maxRecDepth 16384

noncomputable section

open Idealize.ShloMosaic Idealize.ShloMosaic.Pointwise Cert.Triplet

namespace Cert.ReferenceIdeal.Val
open Cert.ReferenceIdeal Cert.ReferenceIdeal.Gen

/-! ## Bits -/

/-- The equality compare's bit. -/
theorem eq_bit (a b : BitVec 32) : IntOp.cmpi .eq a b = 1#1 ↔ a = b := by
  show BitVec.ofBool (a == b) = 1#1 ↔ _
  by_cases h : a = b
  · simp [h]
  · rw [beq_eq_false_iff_ne.mpr h]
    simp [h]

/-- The conjunction's bit. -/
theorem and_bit (a b : BitVec 1) : IntOp.andi a b = 1#1 ↔ a = 1#1 ∧ b = 1#1 := by revert a b; decide

/-- The negation's bit. -/
theorem not_bit (a : BitVec 1) : ~~~a = 1#1 ↔ ¬a = 1#1 := by revert a; decide

/-- A disjunction over a finite set holds exactly when some member's bit does. -/
theorem or_bit {ι : Type} [DecidableEq ι] (s : Finset ι) (f : ι → BitVec 1) :
    Finset.fold IntOp.ori 0#1 f s = 1#1 ↔ ∃ a ∈ s, f a = 1#1 := by
  induction s using Finset.induction_on with
  | empty => simp
  | insert a s ha ih =>
    rw [Finset.fold_insert ha]
    have : ∀ a b : BitVec 1, IntOp.ori a b = 1#1 ↔ a = 1#1 ∨ b = 1#1 := by decide
    rw [this, ih]
    simp

/-- A fold of integer additions is the sum. -/
theorem fold_addi {ι : Type} [DecidableEq ι] (s : Finset ι) (f : ι → BitVec 32) :
    Finset.fold IntOp.addi 0#32 f s = ∑ a ∈ s, f a := by
  induction s using Finset.induction_on with
  | empty => rfl
  | insert a s ha ih => rw [Finset.fold_insert ha, ih, Finset.sum_insert ha]; rfl

/-! ## The masks and the distances -/

variable (x : Vec Ideal S4096x64 .f32) (t : Vec Ideal S4096 .i32)

/-- The embeddings by row and column. -/
abbrev rows : Fin 4096 → Fin 64 → EReal := fun i k => x (ix2 i k)

/-- The labels by row. -/
abbrev labels : Fin 4096 → BitVec 32 := fun i => t (ix1 i)

/-- The distance at a pair. -/
theorem rDist_at (i j : Fin 4096) : rDist (F := Ideal) x (ix2 i j) = dist (rows x) i j := by
  pointwise [rDist]
  rw [word_two]
  rfl

/-- The positives' bit at a pair. -/
theorem rPos_at (i j : Fin 4096) : rPos (F := Ideal) t (ix2 i j) = 1#1 ↔ Pos (labels t) i j := by
  pointwise [rPos, rSame]
  rw [and_bit, not_bit, eq_bit, eq_bit]
  refine and_congr Iff.rfl (not_congr ⟨fun h => ?_, fun h => ?_⟩)
  · have h' : BitVec.ofNat 32 i.val + 0#32 = BitVec.ofNat 32 j.val := h
    rw [BitVec.add_zero] at h'
    have := congrArg BitVec.toNat h'
    rw [BitVec.toNat_ofNat, BitVec.toNat_ofNat] at this
    apply Fin.ext
    omega
  · rw [h]
    exact BitVec.add_zero _

/-- The negatives' bit at a pair. -/
theorem rNeg_at (i j : Fin 4096) : rNeg (F := Ideal) t (ix2 i j) = 1#1 ↔ labels t i ≠ labels t j := by
  pointwise [rNeg, rSame]
  rw [not_bit, eq_bit]

open Classical in
/-- The masked distance at a pair. -/
theorem rWhere_at (p : Vec Ideal S4096x4096 .i1) (d : Vec Ideal S4096x4096 .f32) (b : BitVec 32) (i j : Fin 4096) (P : Prop)
    (hP : p (ix2 i j) = 1#1 ↔ P) :
    rWhere (F := Ideal) p d b (ix2 i j) = if P then d (ix2 i j) else Ideal.ofBits .f32 b := by
  pointwise [rWhere]
  rw [Scalar.select]
  by_cases h : P
  · rw [if_pos h]; exact if_pos (hP.mpr h)
  · rw [if_neg h]; exact if_neg fun g => h (hP.mp g)

/-- The valid rows' bit. -/
theorem rValid_at (i : Fin 4096) : rValid (F := Ideal) (rPos t) (rNeg t) (ix1 i) = 1#1 ↔ Valid (labels t) i := by
  pointwise [rValid]
  rw [and_bit, or_bit, or_bit]
  simp only [Finset.mem_univ, true_and]
  exact and_congr (exists_congr fun j => rPos_at t i j) (exists_congr fun j => rNeg_at t i j)

/-! ## The two results -/

/-- The count of valid rows. -/
theorem refCount_eq (i : S_.Idx) : refCount (F := Ideal) t i = ∑ r : Fin 4096, countRow (labels t) r := by
  unfold refCount
  pointwise [rCount]
  rw [fold_addi]
  refine Finset.sum_congr rfl fun r _ => ?_
  unfold countRow
  by_cases h : Valid (labels t) r
  · rw [if_pos h, (rValid_at t r).mpr h]; rfl
  · rw [if_neg h]
    rcases BitVec.eq_zero_or_eq_one (rValid (F := Ideal) (rPos t) (rNeg t) (ix1 r)) with g | g
    · rw [g]; rfl
    · exact absurd ((rValid_at t r).mp g) h

/-- A valid row's furthest positive is at the halved form's distance. -/
theorem rFar_at (X : Fin 4096 → Fin 64 → ℝ) (hX : ∀ i k, rows x i k = (X i k : EReal)) (i : Fin 4096) (hp : ∃ j, Pos (labels t) i j) :
    rTake (F := Ideal) (rDist x) (rArgmax (rWhere (rPos t) (rDist x) 0xFF800000#32)) (ix1 i)
      = max (sq (rows x) i + farHalf (rows x) (labels t) i) 0 := by
  classical
  obtain ⟨k, hk, hm⟩ := rArgmax_at (rWhere (F := Ideal) (rPos t) (rDist x) 0xFF800000#32) i
  rw [rTake_at _ _ i k hk, rDist_at]
  refine far_eq (labels t) X hX i k hp fun j => ?_
  have := hm j
  rw [rWhere_at _ _ _ i j _ (rPos_at t i j), rWhere_at _ _ _ i k _ (rPos_at t i k), rDist_at, rDist_at, word_bot] at this
  convert this

/-- A valid row's nearest negative is at the halved form's distance. -/
theorem rNear_at (X : Fin 4096 → Fin 64 → ℝ) (hX : ∀ i k, rows x i k = (X i k : EReal)) (i : Fin 4096) (hn : ∃ j, labels t i ≠ labels t j) :
    rTake (F := Ideal) (rDist x) (rArgmin (rWhere (rNeg t) (rDist x) 0x7F800000#32)) (ix1 i)
      = max (sq (rows x) i + nearHalf (rows x) (labels t) i) 0 := by
  classical
  obtain ⟨k, hk, hm⟩ := rArgmin_at (rWhere (F := Ideal) (rNeg t) (rDist x) 0x7F800000#32) i
  rw [rTake_at _ _ i k hk, rDist_at]
  refine near_eq (labels t) X hX i k hn fun j => ?_
  have := hm j
  rw [rWhere_at _ _ _ i j _ (rNeg_at t i j), rWhere_at _ _ _ i k _ (rNeg_at t i k), rDist_at, rDist_at, word_top] at this
  refine le_of_eq_of_le ?_ (this.trans_eq ?_)
  · by_cases h : labels t i = labels t k
    · rw [if_pos h, if_neg (not_not.mpr h)]
    · rw [if_neg h, if_pos h]
  · by_cases h : labels t i = labels t j
    · rw [if_pos h, if_neg (not_not.mpr h)]
    · rw [if_neg h, if_pos h]

/-- The mean of the valid rows' losses. -/
theorem refMean_eq (X : Fin 4096 → Fin 64 → ℝ) (hX : ∀ i k, rows x i k = (X i k : EReal)) (i : S_.Idx) :
    refMean (F := Ideal) x t i
      = Ideal.div (∑ r : Fin 4096, lossRow (rows x) (labels t) r) (max (FloatOps.sitofp (F := Ideal) .f32 (refCount (F := Ideal) t i)) 1) := by
  unfold refMean
  pointwise [rMean]
  refine congrArg₂ Ideal.div (Finset.sum_congr rfl fun r _ => ?_) rfl
  unfold lossRow
  by_cases h : Valid (labels t) r
  · rw [if_pos h, (rValid_at t r).mpr h, rFar_at x t X hX r h.1, rNear_at x t X hX r h.2]
    have : (FloatOps.uitofp (F := Ideal) .f32 (1#1 : BitVec 1) : EReal) = 1 := by
      show (((1#1 : BitVec 1).toNat : ℝ) : EReal) = 1
      norm_num
    rw [this, mul_one]
  · rw [if_neg h]
    rcases BitVec.eq_zero_or_eq_one (rValid (F := Ideal) (rPos t) (rNeg t) (ix1 r)) with g | g
    · rw [g]
      have : (FloatOps.uitofp (F := Ideal) .f32 (0#1 : BitVec 1) : EReal) = 0 := by
        show (((0#1 : BitVec 1).toNat : ℝ) : EReal) = 0
        norm_num
      rw [this, mul_zero]
    · exact absurd ((rValid_at t r).mp g) h

end Cert.ReferenceIdeal.Val
end
-- ==== Proof.Pre.lean ====
/-
  The precondition, read: every embedding is a real number, and every label is below 128.
-/
module

public import proofs.«01_k».proof.Pre_tame
public import proofs.«01_k».proof.Proof.Consts
public import Idealize.ShloMosaic.Lib.Pointwise

@[expose] public section

noncomputable section

open Idealize.ShloMosaic Idealize.ShloMosaic.Pointwise Cert.Triplet

namespace Cert.Pre_tame

/-- The precondition's shape relations. -/
theorem facts : Facts := ⟨by decide, by decide⟩

variable [Facts] (x : Vec Ideal S4096x64 .f32) (t : Vec Ideal S4096 .i32)

/-- Where the first half holds, every embedding is a real number. -/
theorem real_of_tame (h : (fn (F := Ideal) x t).1 = fun _ => 1#1) (i : Fin 4096) (k : Fin 64) : ∃ r : ℝ, x (ix2 i k) = (r : EReal) := by
  have e : Ideal.cmp .olt (max (x (ix2 i k)) (-(x (ix2 i k)))) (Ideal.ofBits .f32 0x7F800000#32) = 1#1 := congrFun h (ix2 i k)
  rw [word_top] at e
  have hl : max (x (ix2 i k)) (-(x (ix2 i k))) < ⊤ := by
    by_contra hn
    simp [Ideal.cmp, hn] at e
  obtain ⟨h1, h2⟩ := max_lt_iff.mp hl
  refine ⟨(x (ix2 i k) : EReal).toReal, (EReal.coe_toReal h1.ne fun hb => ?_).symm⟩
  rw [hb] at h2
  exact absurd h2 (by simp)

/-- Where the second half holds, every label is one of the classes. -/
theorem label_of_tame (h : (fn (F := Ideal) x t).2 = fun _ => 1#1) (i : Fin 4096) : (t (ix1 i)).toNat < 128 := by
  have e : IntOp.andi (IntOp.cmpi .sge (t (ix1 i)) 0#32) (IntOp.cmpi .slt (t (ix1 i)) 128#32) = 1#1 := congrFun h (ix1 i)
  have ab : ∀ a b : Bool, IntOp.andi (BitVec.ofBool a) (BitVec.ofBool b) = 1#1 → a = true ∧ b = true := by decide
  have e' := ab ((0#32).sle (t (ix1 i))) ((t (ix1 i)).slt 128#32) e
  obtain ⟨h1, h2⟩ := e'
  rw [BitVec.sle, decide_eq_true_iff] at h1
  rw [BitVec.slt, decide_eq_true_iff] at h2
  rw [show (0#32 : BitVec 32).toInt = 0 from rfl] at h1
  rw [show (128#32 : BitVec 32).toInt = 128 from rfl] at h2
  have := (t (ix1 i)).isLt
  rw [BitVec.toInt] at h1 h2
  split at h1 <;> split at h2 <;> omega

end Cert.Pre_tame
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KValue
public import proofs.«01_k».proof.Proof.RefValue
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The kernel leaves its arguments as they were and every semaphore at zero. -/
theorem frame_kernel : Cert.quiescent_Kernel := fun m ρ _ => Cert.Kernel.Gen.frame m ρ

/-- So does the idealized kernel. -/
theorem frame_kernelIdeal : Cert.quiescent_KernelIdeal := fun m ρ _ => Cert.KernelIdeal.Gen.frame m ρ

/-- So does the reference, which declares no semaphore. -/
theorem frame_referenceIdeal : Cert.quiescent_ReferenceIdeal := fun m ρ _ =>
  (θ_run Cert.ReferenceIdeal.defs _ _).mono
    (fun r h => ⟨fun c => ⟨(h c).2.2.1, (h c).2.2.2⟩, Idealize.ShloMosaic.sem_eq_zero_of_no_sems (by decide) r.2⟩)
    (Cert.ReferenceIdeal.Val.run (F := Ideal) m ρ)

/-- The precondition's shape relations, for what follows. -/
local instance pre : Cert.Pre_tame.Facts := Cert.Pre_tame.facts

open Cert.KernelIdeal.Val in
/-- Where the precondition holds, the kernel's count is the reference's. -/
theorem count_eq (m : (ℓ : Loc Cert.KernelIdeal.nD Cert.KernelIdeal.τ Cert.KernelIdeal.sig) → Buf (Elt Ideal) ℓ)
    (hpre : Cert.Pre_KernelIdeal_tame m) (c : Dev Cert.KernelIdeal.nD) :
    (fun _ => total m c : Vec Ideal Cert.ReferenceIdeal.S_ .i32)
      = Cert.ReferenceIdeal.Val.refCount (F := Ideal) (m (c.tc.loc Cert.KernelIdeal.main_arg1)) := by
  choose x hx using Cert.Pre_tame.real_of_tame _ _ (hpre c).1
  funext i
  rw [Cert.ReferenceIdeal.Val.refCount_eq]
  exact total_eq m c x hx (Cert.Pre_tame.label_of_tame _ _ (hpre c).2)

open Cert.KernelIdeal.Val in
/-- Where the precondition holds, the kernel's mean is the reference's. -/
theorem mean_eq_ref (m : (ℓ : Loc Cert.KernelIdeal.nD Cert.KernelIdeal.τ Cert.KernelIdeal.sig) → Buf (Elt Ideal) ℓ)
    (hpre : Cert.Pre_KernelIdeal_tame m) (c : Dev Cert.KernelIdeal.nD) :
    (fun _ => mean m c : Vec Ideal Cert.ReferenceIdeal.S_ .f32)
      = Cert.ReferenceIdeal.Val.refMean (F := Ideal) (m (c.tc.loc Cert.KernelIdeal.main_arg0)) (m (c.tc.loc Cert.KernelIdeal.main_arg1)) := by
  choose x hx using Cert.Pre_tame.real_of_tame _ _ (hpre c).1
  funext i
  rw [Cert.ReferenceIdeal.Val.refMean_eq _ _ x hx, ← count_eq m hpre c]
  exact mean_eq m c x hx (Cert.Pre_tame.label_of_tame _ _ (hpre c).2)

/-- Both results of the kernel are the reference's. -/
theorem algebraic : Cert.algebraic_KernelIdeal_ReferenceIdeal_pre_tame := by
  intro m g m' g' hpre hagree
  refine ⟨fun c _ => Cert.KernelIdeal.Val.mean m c, fun c _ => Cert.KernelIdeal.Val.total m c,
    Cert.KernelIdeal.Val.run (F := Ideal) m g, ?_⟩
  refine (θ_run Cert.ReferenceIdeal.defs _ _).mono (fun r h c => ⟨?_, ?_, (h c).2.2.1, (h c).2.2.2⟩)
    (Cert.ReferenceIdeal.Val.run (F := Ideal) m' g')
  · refine (h c).1.trans ?_
    rw [(hagree c).1, (hagree c).2]
    exact (mean_eq_ref m hpre c).symm
  · refine (h c).2.1.trans ?_
    rw [(hagree c).2]
    exact (count_eq m hpre c).symm

theorem claim : Cert.Claim :=
  ⟨Cert.Kernel.Gen.facts, Cert.KernelIdeal.Gen.facts, Cert.ReferenceIdeal.Gen.facts, Cert.Pre_tame.facts,
    frame_kernel, frame_kernelIdeal, fun m ρ _ => Cert.KernelIdeal.Gen.frame m ρ, frame_referenceIdeal,
    fun m ρ _ => frame_referenceIdeal m ρ trivial, trivial, algebraic⟩

end Cert.Proof

end
